-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_general_position [hPre_general_position : Cert.Pre_general_position.Facts] (m : (ℓ : Loc Cert.KernelIdeal.nD Cert.KernelIdeal.τ Cert.KernelIdeal.sig) → Buf (Elt Ideal) ℓ) : Prop :=
  ∀ c : Dev Cert.KernelIdeal.nD,
    (Cert.Pre_general_position.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_general_position [hPre_general_position : Cert.Pre_general_position.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_general_position.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_general_position [hKernelIdeal : Cert.KernelIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_general_position m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_general_position [hReferenceIdeal : Cert.ReferenceIdeal.Facts] [hPre_general_position : Cert.Pre_general_position.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_general_position m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "fifth" .f32 0x3E4CCCCD#32 ((5⁻¹ : ℝ) : EReal)

def algebraic_KernelIdeal_ReferenceIdeal_pre_general_position [hKernelIdeal : Cert.KernelIdeal.Facts] [hReferenceIdeal : Cert.ReferenceIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_general_position m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_general_position : Cert.Pre_general_position.Facts),
    quiescent_Kernel (hKernel := hKernel)
    ∧ quiescent_KernelIdeal (hKernelIdeal := hKernelIdeal)
    ∧ quiescent_KernelIdeal_pre_general_position (hKernelIdeal := hKernelIdeal) (hPre_general_position := hPre_general_position)
    ∧ quiescent_ReferenceIdeal (hReferenceIdeal := hReferenceIdeal)
    ∧ quiescent_ReferenceIdeal_pre_general_position (hReferenceIdeal := hReferenceIdeal) (hPre_general_position := hPre_general_position)
    ∧ preserves_Kernel_KernelIdeal
    ∧ algebraic_KernelIdeal_ReferenceIdeal_pre_general_position (hKernelIdeal := hKernelIdeal) (hReferenceIdeal := hReferenceIdeal) (hPre_general_position := hPre_general_position)
-- ==== Pre_general_position.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x2 : Shape := ⟨2, ![8192, 2]⟩
abbrev S8192x5 : Shape := ⟨2, ![8192, 5]⟩
abbrev S8192x4 : Shape := ⟨2, ![8192, 4]⟩

class Facts : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192 : S_.BroadcastsInDim S8192 (![] : Fin 0 → Fin S8192.rank)
  concatenates_S8192x1_S8192x1_S8192x2_d1 : Shape.Concatenates [S8192x1, S8192x1] S8192x2 1
  sliceFits_S8192x8192_S8192x5 : S8192x8192.Slices (fun _ => 0) S8192x5
  slices_S8192x5_S8192x4_0_0 : S8192x5.Slices ![0, 0] S8192x4
  slices_S8192x5_S8192x4_0_1 : S8192x5.Slices ![0, 1] S8192x4
  bcast_S8192x1_S8192x4_0_1 : S8192x1.BroadcastsInDim S8192x4 (![0, 1] : Fin 2 → Fin S8192x4.rank)
  dot_S8192x256_S256x8192_S8192x8192_1_0_0_1_n_n_wf : DotDims.WF S8192x256 S256x8192 S8192x8192 [1] [0] [0] [1] [] []
  scatter_S8192x8192_S8192x2_S8192_n_01_01_1_wf : ScatterDims.WF S8192x8192 S8192x2 S8192 [] [0, 1] [0, 1] 1

variable [Facts]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def fn_norm {F : FTy → Type} [FloatOps F] (arg0 : FVec F S8192x256 .f32) : FVec F S8192x1 .f32 :=
  let v0 : FVec F S8192x256 .f32 := mulf arg0 arg0
  let cst : FVec F S_ .f32 := constant S_ .f32 0x00000000#32
  let v1 : FVec F S8192 .f32 := (fun x v => Host.reduceAdd x v reducesTo_S8192x256_S8192_d1 h_S_) v0 cst
  let v2 : FVec F S8192x1 .f32 := broadcastInDim S8192x1 ![0] bcast_S8192_S8192x1_0 v1
  let v3 : FVec F S8192x1 .f32 := Host.sqrt v2
  v3

def fn_part1 {F : FTy → Type} [FloatOps F] (main_v0 : FVec F S8192x1 .f32) (main_v7 : FVec F S8192x8192 .f32) (main_v17 : IVec S8192 32) (main_v18 : IVec S8192x1 32) : IVec S8192x4 1 :=
  let main_v19 : IVec S8192x1 32 := broadcastInDim S8192x1 ![0] bcast_S8192_S8192x1_0 main_v17
  let main_v20 : IVec S8192x2 32 := (fun a b => concatenate S8192x2 1 [⟨S8192x1, a⟩, ⟨S8192x1, b⟩] concatenates_S8192x1_S8192x1_S8192x2_d1) main_v18 main_v19
  let main_cst_3 : FVec F S_ .f32 := constant S_ .f32 0xBF800000#32
  let main_v21 : FVec F S8192 .f32 := broadcastInDim S8192 ![] bcast_S_S8192 main_cst_3
  let main_v22 : FVec F S8192x8192 .f32 := (fun x i u => Host.scatter scatter_S8192x8192_S8192x2_S8192_n_01_01_1 (fun _ b => b) x i u) main_v7 main_v20 main_v21
  let main_values : FVec F S8192x5 .f32 := (fun x => (Host.topK S8192x5 1 (FloatOps.cmpfTotal .gt) x sliceFits_S8192x8192_S8192x5).1) main_v22
  let main_indices : IVec S8192x5 32 := (fun x => (Host.topK S8192x5 1 (FloatOps.cmpfTotal .gt) x sliceFits_S8192x8192_S8192x5).2) main_v22
  let main_cst_4 : FVec F S_ .f32 := constant S_ .f32 0x2B8CBCCC#32
  let main_v23 : FVec F S8192x1 .f32 := broadcastInDim S8192x1 ![] bcast_S_S8192x1 main_cst_4
  let main_v24 : IVec S8192x1 1 := cmpf .oge main_v0 main_v23
  let main_cst_5 : FVec F S_ .f32 := constant S_ .f32 0x7F800000#32
  let main_v25 : FVec F S8192x1 .f32 := broadcastInDim S8192x1 ![] bcast_S_S8192x1 main_cst_5
  let main_v26 : IVec S8192x1 1 := cmpf .olt main_v0 main_v25
  let main_v27 : IVec S8192x1 1 := andi main_v24 main_v26
  let main_v28 : FVec F S8192x4 .f32 := (extractStridedSlice S8192x4 ![0, 0] · slices_S8192x5_S8192x4_0_0) main_values
  let main_v29 : FVec F S8192x4 .f32 := (extractStridedSlice S8192x4 ![0, 1] · slices_S8192x5_S8192x4_0_1) main_values
  let main_v30 : IVec S8192x4 1 := cmpf .ogt main_v28 main_v29
  let main_v31 : IVec S8192x4 1 := broadcastInDim S8192x4 ![0, 1] bcast_S8192x1_S8192x4_0_1 main_v27
  let main_v32 : IVec S8192x4 1 := andi main_v31 main_v30
  main_v32

def fn {F : FTy → Type} [FloatOps F] (main_arg0 : FVec F S8192x256 .f32) : IVec S8192x4 1 :=
  let main_v0 : FVec F S8192x1 .f32 := fn_norm (F := F) main_arg0
  let main_cst : FVec F S_ .f32 := constant S_ .f32 0x2B8CBCCC#32
  let main_v1 : FVec F S8192x1 .f32 := broadcastInDim S8192x1 ![] bcast_S_S8192x1 main_cst
  let main_v2 : FVec F S8192x1 .f32 := maximumf main_v0 main_v1
  let main_v3 : FVec F S8192x256 .f32 := broadcastInDim S8192x256 ![0, 1] bcast_S8192x1_S8192x256_0_1 main_v2
  let main_v4 : FVec F S8192x256 .f32 := Host.divf main_arg0 main_v3
  let main_v5 : IVec S8192 32 := iotaInDim S8192 32 0
  let main_v6 : FVec F S256x8192 .f32 := (transpose S256x8192 [1, 0] · transposes_S8192x256_S256x8192_1_0) main_v4
  let main_v7 : FVec F S8192x8192 .f32 := (fun l r => Host.dotGeneral dot_S8192x256_S256x8192_S8192x8192_1_0_0_1_n_n none l r) main_v4 main_v6
  let main_c : IVec S_ 32 := constantI S_ 32 0#32
  let main_v8 : IVec S8192 32 := broadcastInDim S8192 ![] bcast_S_S8192 main_c
  let main_v9 : IVec S8192 1 := cmpi .slt main_v5 main_v8
  let main_c_0 : IVec S_ 32 := constantI S_ 32 8192#32
  let main_v10 : IVec S8192 32 := broadcastInDim S8192 ![] bcast_S_S8192 main_c_0
  let main_v11 : IVec S8192 32 := addi main_v5 main_v10
  let main_v12 : IVec S8192 32 := select main_v9 main_v11 main_v5
  let main_c_1 : IVec S_ 32 := constantI S_ 32 0#32
  let main_v13 : IVec S8192 32 := broadcastInDim S8192 ![] bcast_S_S8192 main_c_1
  let main_v14 : IVec S8192 1 := cmpi .slt main_v5 main_v13
  let main_c_2 : IVec S_ 32 := constantI S_ 32 8192#32
  let main_v15 : IVec S8192 32 := broadcastInDim S8192 ![] bcast_S_S8192 main_c_2
  let main_v16 : IVec S8192 32 := addi main_v5 main_v15
  let main_v17 : IVec S8192 32 := select main_v14 main_v16 main_v5
  let main_v18 : IVec S8192x1 32 := broadcastInDim S8192x1 ![0] bcast_S8192_S8192x1_0 main_v12
  fn_part1 (F := F) main_v0 main_v7 main_v17 main_v18
-- ==== Kernel.lean ====
abbrev S8192x256 : Shape := ⟨2, ![8192, 256]⟩
abbrev S1x1 : Shape := ⟨2, ![1, 1]⟩
abbrev S8192 : Shape := ⟨1, ![8192]⟩
abbrev S8192x1 : Shape := ⟨2, ![8192, 1]⟩
abbrev S512x256 : Shape := ⟨2, ![512, 256]⟩
abbrev S512x8192 : Shape := ⟨2, ![512, 8192]⟩
abbrev S512x128 : Shape := ⟨2, ![512, 128]⟩
abbrev S512x1 : Shape := ⟨2, ![512, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S8192x256, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S8192x256, .f32⟩
  | .local _ .vmem, ⟨1, _⟩ => ⟨S1x1, .f32⟩
  | .local _ .vmem, ⟨2, _⟩ => ⟨S8192x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "fifth" => some ((5⁻¹ : ℝ) : EReal)
  | _ => none
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x2 : Shape := ⟨2, ![8192, 2]⟩
abbrev S8192x5 : Shape := ⟨2, ![8192, 5]⟩
abbrev S8192x5x1 : Shape := ⟨3, ![8192, 5, 1]⟩
abbrev S1 : Shape := ⟨1, ![1]⟩
abbrev S1x1x1 : Shape := ⟨3, ![1, 1, 1]⟩
abbrev S8192x5x256 : Shape := ⟨3, ![8192, 5, 256]⟩
abbrev S8192x1x256 : Shape := ⟨3, ![8192, 1, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S256x8192, .f32⟩
  | .hbm, ⟨12, _⟩ => ⟨S8192x8192, .f32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192x1, .i32⟩
  | .hbm, ⟨30, _⟩ => ⟨S8192x2, .i32⟩
  | .hbm, ⟨31, _⟩ => ⟨S_, .f32⟩
  | .hbm, ⟨32, _⟩ => ⟨S8192, .f32⟩
  | .hbm, ⟨33, _⟩ => ⟨S8192x8192, .f32⟩
  | .hbm, ⟨34, _⟩ => ⟨S8192x5, .f32⟩
  | .hbm, ⟨35, _⟩ => ⟨S8192x5, .i32⟩
  | .hbm, ⟨36, _⟩ => ⟨S_, .i32⟩
  | .hbm, ⟨37, _⟩ => ⟨S8192x5, .i32⟩
  | .hbm, ⟨38, _⟩ => ⟨S8192x5, .i1⟩
  | .hbm, ⟨39, _⟩ => ⟨S_, .i32⟩
  | .hbm, ⟨40, _⟩ => ⟨S8192x5, .i32⟩
  | .hbm, ⟨41, _⟩ => ⟨S8192x5, .i32⟩
  | .hbm, ⟨42, _⟩ => ⟨S8192x5, .i32⟩
  | .hbm, ⟨43, _⟩ => ⟨S8192x5x1, .i32⟩
  | .hbm, ⟨44, _⟩ => ⟨S1, .i32⟩
  | .hbm, ⟨45, _⟩ => ⟨S_, .i32⟩
  | .hbm, ⟨46, _⟩ => ⟨S8192x5x1, .i32⟩
  | .hbm, ⟨47, _⟩ => ⟨S8192x5x1, .i1⟩
  | .hbm, ⟨48, _⟩ => ⟨S1x1x1, .i32⟩
  | .hbm, ⟨49, _⟩ => ⟨S8192x5x1, .i32⟩
  | .hbm, ⟨50, _⟩ => ⟨S8192x5x1, .i1⟩
  | .hbm, ⟨51, _⟩ => ⟨S8192x5x1, .i1⟩
  | .hbm, ⟨52, _⟩ => ⟨S_, .i1⟩
  | .hbm, ⟨53, _⟩ => ⟨S8192x5, .i1⟩
  | .hbm, ⟨54, _⟩ => ⟨S8192x5x256, .f32⟩
  | .hbm, ⟨55, _⟩ => ⟨S8192x5x256, .i1⟩
  | .hbm, ⟨56, _⟩ => ⟨S_, .f32⟩
  | .hbm, ⟨57, _⟩ => ⟨S8192x5x256, .f32⟩
  | .hbm, ⟨58, _⟩ => ⟨S8192x5x256, .f32⟩
  | .hbm, ⟨59, _⟩ => ⟨S8192x1x256, .f32⟩
  | .hbm, ⟨60, _⟩ => ⟨S8192x5x256, .f32⟩
  | .hbm, ⟨61, _⟩ => ⟨S8192x5x256, .f32⟩
  | .hbm, ⟨62, _⟩ => ⟨S8192x5x256, .f32⟩
  | .hbm, ⟨63, _⟩ => ⟨S_, .f32⟩
  | .hbm, ⟨64, _⟩ => ⟨S8192x5, .f32⟩
  | .hbm, ⟨65, _⟩ => ⟨S8192x5, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_values : Ref sig .tc := ⟨.hbm, 34, rfl⟩
abbrev main_indices : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call2_v0 : Ref sig .tc := ⟨.hbm, 62, rfl⟩
abbrev main_call2_cst : Ref sig .tc := ⟨.hbm, 63, rfl⟩
abbrev main_call2_v1 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_v30 : Ref sig .tc := ⟨.hbm, 70, rfl⟩
abbrev main_cst_6 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_7 : Ref sig .tc := ⟨.hbm, 75, rfl⟩
abbrev main_v34 : Ref sig .tc := ⟨.hbm, 76, rfl⟩
abbrev main_cst_8 : Ref sig .tc := ⟨.hbm, 77, rfl⟩
abbrev main_v35 : Ref sig .tc := ⟨.hbm, 78, rfl⟩
abbrev main_v36 : Ref sig .tc := ⟨.hbm, 79, rfl⟩

abbrev nD : Nat := 1
abbrev τ : Topo := Topo.v7x

variable {F : FTy → Type} [FloatOps F]
-- ==== Proof.Lanes.lean ====
/- The selection the kernel makes in one row, over the extended reals and without the program: a lane keeps the
   greatest entries of its column of chunks in order, and five rounds of "maximum over the lanes, then pull the lane
   that holds it up by one" give the five greatest entries of the row when those are five different values. -/
module

public import Idealize.ShloMosaic.Lib.Pipeline.Value
public import Idealize.ShloMosaic.PureOps.Ideal.Laws

@[expose] public section

noncomputable section

namespace Cert.Lanes

/-- What a value `v` becomes on its way down the registers `r`: what is handed to register `k` is the least of `v` and the
    registers above `k`. -/
def carry (r : ℕ → EReal) (v : EReal) : ℕ → EReal
  | 0 => v
  | k + 1 => min (r k) (carry r v k)

/-- One insertion: register `k` keeps the greater of itself and what is handed to it. -/
def ins (r : ℕ → EReal) (v : EReal) (k : ℕ) : EReal := max (r k) (carry r v k)

/-- The registers of one lane after the entries `w 0, …, w n`, started at the first entry over the floor `f`. -/
def regs (f : EReal) (w : ℕ → EReal) : ℕ → ℕ → EReal
  | 0 => fun k => if k = 0 then w 0 else f
  | n + 1 => ins (regs f w n) (w (n + 1))

/-- If exactly the first `N` registers reach `y`, what is handed to register `k` reaches `y` when `v` does and `k ≤ N`. -/
theorem le_carry_iff {r : ℕ → EReal} {y : EReal} {N : ℕ} (h : ∀ j, y ≤ r j ↔ j < N) (v : EReal) (k : ℕ) :
    y ≤ carry r v k ↔ y ≤ v ∧ k ≤ N := by
  induction k with
  | zero => simp [carry]
  | succ k ih =>
    rw [carry, le_min_iff, ih, h k]
    constructor
    · rintro ⟨h1, h2, _⟩; exact ⟨h2, h1⟩
    · rintro ⟨h1, h2⟩; exact ⟨h2, h1, by omega⟩

/-- If exactly the first `N` registers reach `y`, then after an insertion of `v` exactly the first `N` or `N + 1` do,
    the latter when `v` reaches `y`. -/
theorem le_ins_iff {r : ℕ → EReal} {y : EReal} {N : ℕ} (h : ∀ j, y ≤ r j ↔ j < N) (v : EReal) (k : ℕ) :
    y ≤ ins r v k ↔ k < N + if y ≤ v then 1 else 0 := by
  rw [ins, le_max_iff, h k, le_carry_iff h]
  split
  · rename_i hv
    simp only [hv, true_and]; omega
  · rename_i hv
    simp only [hv, false_and, or_false, add_zero]

/-- Above the floor, register `k` reaches `y` exactly when more than `k` of the entries do. -/
theorem le_regs_iff {f y : EReal} (hy : f < y) (w : ℕ → EReal) (n k : ℕ) :
    y ≤ regs f w n k ↔ k < ((Finset.range (n + 1)).filter (fun c => y ≤ w c)).card := by
  induction n generalizing k with
  | zero =>
    by_cases hk : k = 0
    · subst hk
      by_cases h : y ≤ w 0 <;> simp [regs, h, Finset.filter_singleton]
    · have h1 : ((Finset.range (0 + 1)).filter (fun c => y ≤ w c)).card ≤ 1 :=
        (Finset.card_filter_le _ _).trans (by simp)
      simp only [regs, if_neg hk, not_le.mpr hy, false_iff]
      omega
  | succ n ih =>
    rw [regs, le_ins_iff ih]
    rw [Finset.range_add_one (n := n + 1), Finset.filter_insert]
    split
    · rw [Finset.card_insert_of_notMem (by simp)]
    · rw [add_zero]

/-- The columns of `A` in lane `l` whose entry reaches `y`. -/
def above (w : ℕ → EReal) (A : Finset ℕ) (l : ℕ) (y : EReal) : Finset ℕ :=
  A.filter (fun col => col % 128 = l ∧ y ≤ w col)

/-- The first `d` registers of every lane hold the greatest entries of the columns `A` in that lane, in order, as far as
    they lie above the floor. -/
def Held (f : EReal) (w : ℕ → EReal) (A : Finset ℕ) (d : ℕ) (R : ℕ → ℕ → EReal) : Prop :=
  ∀ j < d, ∀ l < 128, ∀ y, f < y → (y ≤ R j l ↔ j < (above w A l y).card)

/-- After all 64 chunks the registers hold the row's entries. -/
theorem held_regs (f : EReal) (w : ℕ → EReal) (d : ℕ) :
    Held f w (Finset.range 8192) d (fun j l => regs f (fun c => w (128 * c + l)) 63 j) := by
  intro j _ l hl y hy
  show y ≤ regs f (fun c => w (128 * c + l)) 63 j ↔ _
  rw [le_regs_iff hy]
  have h : above w (Finset.range 8192) l y
      = ((Finset.range (63 + 1)).filter (fun c => y ≤ w (128 * c + l))).image (fun c => 128 * c + l) := by
    ext col
    simp only [above, Finset.mem_filter, Finset.mem_range, Finset.mem_image]
    constructor
    · rintro ⟨h1, h2, h3⟩
      have e : 128 * (col / 128) + l = col := by omega
      exact ⟨col / 128, ⟨by omega, by rw [e]; exact h3⟩, e⟩
    · rintro ⟨c, ⟨h1, h2⟩, rfl⟩
      exact ⟨by omega, by omega, h2⟩
  rw [h, Finset.card_image_of_injective _ (fun a b hab => by simpa using hab)]

/-- The greatest first register over the lanes. -/
def top (R : ℕ → ℕ → EReal) : EReal := (Finset.range 128).sup (R 0)

/-- One round: a lane whose first register is the greatest moves up by one register. -/
def next (R : ℕ → ℕ → EReal) : ℕ → ℕ → EReal := fun j l => if R 0 l = top R then R (j + 1) l else R j l

/-- A round finds the greatest entry `t` among the columns left, when that lies above the floor. -/
theorem top_eq {f : EReal} {w : ℕ → EReal} {A : Finset ℕ} {d : ℕ} {R : ℕ → ℕ → EReal} (h : Held f w A (d + 1) R)
    {s : ℕ} {t : EReal} (hs : s ∈ A) (hw : w s = t) (ht : f < t) (hle : ∀ c ∈ A, w c ≤ t) : top R = t := by
  apply le_antisymm
  · refine Finset.sup_le fun l hl => ?_
    by_contra hc
    rw [not_le] at hc
    have h1 := (h 0 (by omega) l (Finset.mem_range.mp hl) (R 0 l) (ht.trans hc)).mp le_rfl
    obtain ⟨c, hcm⟩ := Finset.card_pos.mp h1
    simp only [above, Finset.mem_filter] at hcm
    exact absurd (hcm.2.2.trans (hle c hcm.1)) (not_le.mpr hc)
  · have hl : s % 128 < 128 := Nat.mod_lt _ (by norm_num)
    have h1 : t ≤ R 0 (s % 128) := by
      rw [h 0 (by omega) _ hl t ht]
      refine Finset.card_pos.mpr ⟨s, ?_⟩
      simp only [above, Finset.mem_filter]
      exact ⟨hs, trivial, hw.ge⟩
    exact h1.trans (Finset.le_sup (f := R 0) (Finset.mem_range.mpr hl))

/-- After a round that finds `t` in the one column `s`, the registers hold the other columns' entries, one register
    fewer. -/
theorem held_next {f : EReal} {w : ℕ → EReal} {A : Finset ℕ} {d : ℕ} {R : ℕ → ℕ → EReal} (h : Held f w A (d + 1) R)
    {s : ℕ} {t : EReal} (hs : s ∈ A) (hw : w s = t) (ht : f < t) (hle : ∀ c ∈ A, w c ≤ t)
    (huniq : ∀ c ∈ A, w c = t → c = s) : Held f w (A.erase s) d (next R) := by
  have htop := top_eq h hs hw ht hle
  intro j hj l hl y hy
  by_cases hls : s % 128 = l
  · -- the lane that holds `t`
    have h0 : R 0 l = t := by
      apply le_antisymm
      · rw [← htop]; exact Finset.le_sup (f := R 0) (Finset.mem_range.mpr hl)
      · rw [h 0 (by omega) _ hl t ht]
        refine Finset.card_pos.mpr ⟨s, ?_⟩
        simp only [above, Finset.mem_filter]
        exact ⟨hs, hls, hw.ge⟩
    rw [next, if_pos (h0.trans htop.symm), h (j + 1) (by omega) l hl y hy]
    by_cases hyt : y ≤ t
    · have e : above w (A.erase s) l y = (above w A l y).erase s := by
        ext c; simp only [above, Finset.mem_filter, Finset.mem_erase]; tauto
      have hm : s ∈ above w A l y := by
        simp only [above, Finset.mem_filter]; exact ⟨hs, hls, hyt.trans hw.ge⟩
      rw [e, Finset.card_erase_of_mem hm]
      have := Finset.card_pos.mpr ⟨s, hm⟩
      omega
    · have e : ∀ B : Finset ℕ, B ⊆ A → above w B l y = ∅ := by
        intro B hB
        refine Finset.filter_eq_empty_iff.mpr fun c hc hcc => hyt (hcc.2.trans (hle c (hB hc)))
      rw [e A (Finset.Subset.refl _), e _ (Finset.erase_subset _ _)]
      simp
  · have h0 : R 0 l ≠ top R := by
      rw [htop]
      intro he
      have h1 := (h 0 (by omega) l hl t ht).mp he.ge
      obtain ⟨c, hcm⟩ := Finset.card_pos.mp h1
      simp only [above, Finset.mem_filter] at hcm
      have := huniq c hcm.1 (le_antisymm (hle c hcm.1) hcm.2.2)
      subst this
      exact hls hcm.2.1
    rw [next, if_neg h0, h j (by omega) l hl y hy]
    have e : above w (A.erase s) l y = above w A l y := by
      ext c; simp only [above, Finset.mem_filter, Finset.mem_erase]
      constructor
      · tauto
      · rintro ⟨a, b, c'⟩
        refine ⟨⟨?_, a⟩, b, c'⟩
        rintro rfl; exact hls b
    rw [e]

/-- THE FIVE ROUNDS: when `t 0 > t 1 > … > t 4` are the entries of the columns `s 0, …, s 4`, above the floor, and after each
    of them no other column has a greater entry, round `k` finds `t k`. -/
theorem top_iterate {f : EReal} {w : ℕ → EReal} {R : ℕ → ℕ → EReal} (h : Held f w (Finset.range 8192) 5 R)
    (s : ℕ → ℕ) (t : ℕ → EReal) (hs : ∀ k < 5, s k < 8192) (hw : ∀ k < 5, w (s k) = t k) (ht : ∀ k < 5, f < t k)
    (hle : ∀ k < 5, ∀ c < 8192, (∀ j ≤ k, c ≠ s j) → w c ≤ t k) (hlt : ∀ k < 4, t (k + 1) < t k) :
    ∀ k < 5, top (next^[k] R) = t k := by
  have hmono : ∀ k, ∀ j, j < k → k < 5 → t k < t j := by
    intro k
    induction k with
    | zero => intro j hj; omega
    | succ k ih =>
      intro j hj hk
      rcases Nat.lt_succ_iff_lt_or_eq.mp hj with h1 | h1
      · exact (hlt k (by omega)).trans (ih j h1 (by omega))
      · subst h1; exact hlt j (by omega)
  -- the columns left before round `k`
  set A : ℕ → Finset ℕ := fun k => (Finset.range 8192).filter (fun c => ∀ j < k, c ≠ s j) with hA
  have memA : ∀ k c, c ∈ A k ↔ c < 8192 ∧ ∀ j < k, c ≠ s j := by
    intro k c; simp only [hA, Finset.mem_filter, Finset.mem_range]
  have hsA : ∀ k < 5, s k ∈ A k := by
    intro k hk
    rw [memA]
    refine ⟨hs k hk, fun j hj he => ?_⟩
    have := hmono k j hj hk
    rw [← hw k hk, he, hw j (by omega)] at this
    exact lt_irrefl _ this
  have hleA : ∀ k < 5, ∀ c ∈ A k, w c ≤ t k := by
    intro k hk c hc
    rw [memA] at hc
    by_cases e : c = s k
    · rw [e, hw k hk]
    · refine hle k hk c hc.1 fun j hj => ?_
      rcases Nat.lt_or_ge j k with h1 | h1
      · exact hc.2 j h1
      · obtain rfl : j = k := by omega
        exact e
  have huA : ∀ k < 4, ∀ c ∈ A k, w c = t k → c = s k := by
    intro k hk c hc he
    by_contra hne
    rw [memA] at hc
    have hc' : c ∈ A (k + 1) := by
      rw [memA]
      refine ⟨hc.1, fun j hj => ?_⟩
      rcases Nat.lt_or_ge j k with h1 | h1
      · exact hc.2 j h1
      · obtain rfl : j = k := by omega
        exact hne
    have := hleA (k + 1) (by omega) c hc'
    rw [he] at this
    exact absurd (hlt k hk) (not_lt.mpr this)
  have hAs : ∀ k, A (k + 1) = (A k).erase (s k) := by
    intro k
    ext c
    rw [Finset.mem_erase, memA, memA]
    constructor
    · rintro ⟨a, b⟩
      exact ⟨b k (by omega), a, fun j hj => b j (by omega)⟩
    · rintro ⟨a, b, c'⟩
      refine ⟨b, fun j hj => ?_⟩
      rcases Nat.lt_or_ge j k with h1 | h1
      · exact c' j h1
      · obtain rfl : j = k := by omega
        exact a
  have hheld : ∀ k, k < 5 → Held f w (A k) (5 - k) (next^[k] R) := by
    intro k
    induction k with
    | zero =>
      intro _
      have : A 0 = Finset.range 8192 := by
        ext c; rw [memA]; simp
      rw [this]
      exact h
    | succ k ih =>
      intro hk
      have h5 : 5 - k = (5 - (k + 1)) + 1 := by omega
      have hk' := ih (by omega)
      rw [h5] at hk'
      rw [Function.iterate_succ_apply', hAs]
      exact held_next hk' (hsA k (by omega)) (hw k (by omega)) (ht k (by omega)) (hleA k (by omega)) (huA k (by omega))
  intro k hk
  have h5 : 5 - k = (5 - (k + 1)) + 1 := by omega
  have hk' := hheld k hk
  rw [h5] at hk'
  exact top_eq hk' (hsA k hk) (hw k hk) (ht k hk) (hleA k hk)

end Cert.Lanes

end

end
-- ==== Proof.Chain.lean ====
/- The registers the kernel keeps in every lane, as vectors: each part of the body inserts six chunks of the block of dot
   products, and after all of them a lane holds the greatest entries of its column of chunks. -/
module

public import proofs.«01_k».proof.Proof.Gen.KernelIdeal.Skeleton
public import proofs.«01_k».proof.Proof.Lanes
public import Idealize.ShloMosaic.Lib.ValueIdx

@[expose] public section

noncomputable section

namespace Cert.Chain

open Idealize.ShloMosaic Idealize.ShloMosaic.ValueIdx Cert.KernelIdeal Cert.KernelIdeal.Gen Cert.Lanes

/-- One register of every lane of a block of 512 rows. -/
abbrev Reg : Type := FVec Ideal S512x128 .f32

/-- A block of 512 rows of dot products. -/
abbrev Dots : Type := FVec Ideal S512x8192 .f32

/-- Columns `128 c, …, 128 c + 127` lie inside the block. -/
theorem slices (c : ℕ) (h : c < 64) : S512x8192.Slices ![0, 128 * c] S512x128 :=
  ⟨rfl, fun a => by
    match a with
    | ⟨0, _⟩ => show 0 + 512 ≤ 512; omega
    | ⟨1, _⟩ => show 128 * c + 128 ≤ 8192; omega⟩

/-- Chunk `c` of the block. -/
def cut (y : Dots) (c : ℕ) (h : c < 64) : Reg := extractStridedSlice S512x128 ![0, 128 * c] y (slices c h)

/-- A chunk's entry is the block's, `128 c` columns along. -/
theorem cut_at (y : Dots) (c : ℕ) (h : c < 64) (p : Fin 512) (l : Fin 128) :
    cut y c h (ix2 p l) = y (ix2 p ⟨128 * c + l.val, by omega⟩) := by
  refine extractStridedSlice_apply _ y (slices c h) (ix2 p l) (ix2 p ⟨128 * c + l.val, by omega⟩) fun a => ?_
  match a with
  | ⟨0, _⟩ => exact (Nat.zero_add _).symm
  | ⟨1, _⟩ => rfl

/-- What is handed to register `k` when `v` is inserted. -/
def vcarry (R : ℕ → Reg) (v : Reg) : ℕ → Reg
  | 0 => v
  | k + 1 => minimumf (R k) (vcarry R v k)

/-- The registers after `v` is inserted. -/
def vins (R : ℕ → Reg) (v : Reg) (k : ℕ) : Reg := maximumf (R k) (vcarry R v k)

/-- The registers after six chunks, from chunk `c` on. -/
def six (y : Dots) (R : ℕ → Reg) (c : ℕ) (h : c + 5 < 64) : ℕ → Reg :=
  vins (vins (vins (vins (vins (vins R (cut y c (by omega))) (cut y (c + 1) (by omega))) (cut y (c + 2) (by omega)))
    (cut y (c + 3) (by omega))) (cut y (c + 4) (by omega))) (cut y (c + 5) h)

/-- Five registers in order. -/
def five (a b c d e : Reg) : ℕ → Reg
  | 0 => a
  | 1 => b
  | 2 => c
  | 3 => d
  | _ => e

/-- The five registers a part of the body hands on, from the five it is handed. -/
def part (y : Dots) (R : ℕ → Reg) : Fin 10 → ℕ → Reg
  | ⟨0, _⟩ => five (k0_pay72 y (R 0)) (k0_pay74 y (R 0) (R 1)) (k0_pay76 y (R 0) (R 1) (R 2)) (k0_pay78 y (R 0) (R 1) (R 2) (R 3)) (k0_pay79 y (R 0) (R 1) (R 2) (R 3) (R 4))
  | ⟨1, _⟩ => five (k0_pay121 y (R 0)) (k0_pay123 y (R 0) (R 1)) (k0_pay125 y (R 0) (R 1) (R 2)) (k0_pay127 y (R 0) (R 1) (R 2) (R 3)) (k0_pay128 y (R 0) (R 1) (R 2) (R 3) (R 4))
  | ⟨2, _⟩ => five (k0_pay170 y (R 0)) (k0_pay172 y (R 0) (R 1)) (k0_pay174 y (R 0) (R 1) (R 2)) (k0_pay176 y (R 0) (R 1) (R 2) (R 3)) (k0_pay177 y (R 0) (R 1) (R 2) (R 3) (R 4))
  | ⟨3, _⟩ => five (k0_pay219 y (R 0)) (k0_pay221 y (R 0) (R 1)) (k0_pay223 y (R 0) (R 1) (R 2)) (k0_pay225 y (R 0) (R 1) (R 2) (R 3)) (k0_pay226 y (R 0) (R 1) (R 2) (R 3) (R 4))
  | ⟨4, _⟩ => five (k0_pay268 y (R 0)) (k0_pay270 y (R 0) (R 1)) (k0_pay272 y (R 0) (R 1) (R 2)) (k0_pay274 y (R 0) (R 1) (R 2) (R 3)) (k0_pay275 y (R 0) (R 1) (R 2) (R 3) (R 4))
  | ⟨5, _⟩ => five (k0_pay317 y (R 0)) (k0_pay319 y (R 0) (R 1)) (k0_pay321 y (R 0) (R 1) (R 2)) (k0_pay323 y (R 0) (R 1) (R 2) (R 3)) (k0_pay324 y (R 0) (R 1) (R 2) (R 3) (R 4))
  | ⟨6, _⟩ => five (k0_pay366 y (R 0)) (k0_pay368 y (R 0) (R 1)) (k0_pay370 y (R 0) (R 1) (R 2)) (k0_pay372 y (R 0) (R 1) (R 2) (R 3)) (k0_pay373 y (R 0) (R 1) (R 2) (R 3) (R 4))
  | ⟨7, _⟩ => five (k0_pay415 y (R 0)) (k0_pay417 y (R 0) (R 1)) (k0_pay419 y (R 0) (R 1) (R 2)) (k0_pay421 y (R 0) (R 1) (R 2) (R 3)) (k0_pay422 y (R 0) (R 1) (R 2) (R 3) (R 4))
  | ⟨8, _⟩ => five (k0_pay464 y (R 0)) (k0_pay466 y (R 0) (R 1)) (k0_pay468 y (R 0) (R 1) (R 2)) (k0_pay470 y (R 0) (R 1) (R 2) (R 3)) (k0_pay471 y (R 0) (R 1) (R 2) (R 3) (R 4))
  | ⟨9, _⟩ => five (k0_pay513 y (R 0)) (k0_pay515 y (R 0) (R 1)) (k0_pay517 y (R 0) (R 1) (R 2)) (k0_pay519 y (R 0) (R 1) (R 2) (R 3)) (k0_pay520 y (R 0) (R 1) (R 2) (R 3) (R 4))

set_option maxRecDepth 8192 in
/-- Each of those parts inserts six chunks. -/
theorem part_eq (y : Dots) (R : ℕ → Reg) (n : Fin 10) (k : ℕ) (hk : k < 5) :
    part y R n k = six y R (4 + 6 * n.val) (by omega) k := by
  fin_cases n <;> interval_cases k <;> rfl

end Cert.Chain

end

end
-- ==== Proof.Rounds.lean ====
/- One grid step of the kernel as a function of the registers: the five rounds of "maximum over the lanes, pull up the lane
   that holds it", the distances they give, and the block's contribution to the sum. -/
module

public import proofs.«01_k».proof.Proof.Chain

@[expose] public section

noncomputable section

namespace Cert.Rounds

open Idealize.ShloMosaic Idealize.ShloMosaic.ValueIdx Cert.KernelIdeal Cert.KernelIdeal.Gen Cert.Chain

/-- One number for every row of a block. -/
abbrev Col : Type := FVec Ideal S512x1 .f32

/-- The maximum over the lanes of the first register. -/
def vtop (R : ℕ → Reg) : Col :=
  shapeCast S512x1 (multiReduction .maximumf [1] S512 (R 0) 0xFF800000#32 reduces_S512x128_S512 (.inl rfl) rfl) shapeCasts_S512_S512x1

/-- The registers after a round: a lane whose first register is the row's maximum moves up by one. -/
def vnext (R : ℕ → Reg) (j : ℕ) : Reg :=
  select (cmpf .oeq (R 0) (broadcastTo S512x128 (vtop R) broadcasts_S512x1_S512x128)) (R (j + 1)) (R j)

/-- The distance a round's maximum stands for. -/
def vdist (R : ℕ → Reg) : Col :=
  sqrt (maximumf (subf (broadcast S512x1 (Scalar.ofBits .f32 0x40000000#32)) (mulf (broadcast S512x1 (Scalar.ofBits .f32 0x40000000#32)) (vtop R)))
    (broadcast S512x1 (Scalar.ofBits .f32 0x00000000#32)))

/-- The sum of the distances of the first `k` rounds. -/
def vsum (R : ℕ → Reg) : ℕ → Col
  | 0 => broadcast S512x1 (Scalar.ofBits .f32 0x00000000#32)
  | k + 1 => addf (vsum R k) (vdist (vnext^[k] R))

/-- The logarithm of a row's mean distance. -/
def vlog (R : ℕ → Reg) : Col :=
  log (addf (mulf (vsum R 5) (broadcast S512x1 (Named.named κ "fifth" 0x3E4CCCCD#32))) (broadcast S512x1 (Scalar.ofBits .f32 0x322BCC77#32)))

/-- What a grid step leaves in the output: what it found there plus the block's sum. -/
def vout (L : Col) (o : Vec Ideal S1x1 .f32) : FVec Ideal S1x1 .f32 :=
  addf (shapeCast S1x1 o shapeCasts_S1x1_S1x1)
    (broadcast S1x1 (extractAt ![0, 0, 0] (shapeCast S1x1x1 (multiReduction .add [1, 2] S1 (shapeCast S1x512x1 L shapeCasts_S512x1_S1x512x1)
      0x00000000#32 reduces_S1x512x1_S1 (.inl rfl) rfl) shapeCasts_S1_S1x1x1) inpos_S1x1x1_p0_0_0))

/-- The last parts of the body are these rounds over the registers they are handed. -/
theorem last_eq (R : ℕ → Reg) (o : Vec Ideal S1x1 .f32) :
    k0_pay535 (k0_pay531 (R 0) (R 1) (R 2)) (k0_pay533 (R 0) (R 1) (R 2) (R 3)) (k0_pay534 (R 0) (R 1) (R 2) (R 3) (R 4)) o
      = vout (vlog R) o := rfl

/-- The registers the body starts from: the first chunk over the floor. -/
def start (y : Dots) : ℕ → Reg
  | 0 => cut y 0 (by omega)
  | _ + 1 => k0_pay4

/-- The five registers the first part of the body hands on. -/
def first (i : grid0.Coords) (v5 : Vec Ideal S512x256 .f32) (v6 : Vec Ideal S8192x256 .f32) : ℕ → Reg :=
  five (k0_pay23 i v5 v6) (k0_pay25 i v5 v6) (k0_pay27 i v5 v6) (k0_pay29 i v5 v6) (k0_pay30 i v5 v6)

/-- They hold the first four chunks. -/
theorem first_eq (i : grid0.Coords) (v5 : Vec Ideal S512x256 .f32) (v6 : Vec Ideal S8192x256 .f32) (k : ℕ) (hk : k < 5) :
    first i v5 v6 k = vins (vins (vins (start (k0_pay3 i v5 v6)) (cut (k0_pay3 i v5 v6) 1 (by omega))) (cut (k0_pay3 i v5 v6) 2 (by omega)))
      (cut (k0_pay3 i v5 v6) 3 (by omega)) k := by
  interval_cases k <;> rfl

/-- The registers after the first `n` of the ten parts that insert six chunks each. -/
def upto (i : grid0.Coords) (v5 : Vec Ideal S512x256 .f32) (v6 : Vec Ideal S8192x256 .f32) : ℕ → ℕ → Reg
  | 0 => first i v5 v6
  | n + 1 => if h : n < 10 then part (k0_pay3 i v5 v6) (upto i v5 v6 n) ⟨n, h⟩ else first i v5 v6

/-- A grid step: from the block's rows, all rows and what the output holds, what it leaves in the output. -/
def step (i : grid0.Coords) (v5 : Vec Ideal S512x256 .f32) (v6 : Vec Ideal S8192x256 .f32) (o : Vec Ideal S1x1 .f32) : FVec Ideal S1x1 .f32 :=
  vout (vlog (upto i v5 v6 10)) o

end Cert.Rounds

end

end
-- ==== Proof.Steps.lean ====
/- What each grid step leaves in its buffers: the scratch holds the rows of length one from the first step on, the output the running sum of
   the steps' contributions. -/
module

public import proofs.«01_k».proof.Proof.Gen.KernelIdeal.Frame
public import Idealize.ShloMosaic.Lib.Pipeline.Value
public import Idealize.ShloMosaic.Lib.Pipeline.ValueKit.Basic
public import proofs.«01_k».proof.Proof.Rounds

@[expose] public section

set_option maxRecDepth 16384

noncomputable section

namespace Cert.Steps

open Idealize.ShloMosaic Idealize.ShloMosaic.TcCoe Cert.KernelIdeal Cert.KernelIdeal.Gen Cert.Rounds Cert.Chain

/-- Offsets that are zero on both axes. -/
theorem offsets : (![0, 0] : Fin 2 → Nat) = fun _ => 0 := funext fun a => by fin_cases a <;> rfl

/-- A rectangle of the array's own sizes at zero offsets holds every index. -/
theorem everywhere {S : Shape} {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]
  exact Finset.mem_univ y

/-- The rows of the block a step works on. -/
def rows (i : grid0.Coords) (y : Vec Ideal S8192x256 .f32) : Vec Ideal S512x256 .f32 :=
  View.ld y (Rect.unit (s := S8192x256) (k0_off1 i) S512x256.size (k0_off1_inb i))

/-- A part looks at the five registers only. -/
theorem part_congr (y : Dots) (R S : ℕ → Reg) (n : Fin 10) (h : ∀ k < 5, R k = S k) : part y R n = part y S n := by
  have e0 := h 0 (by omega)
  have e1 := h 1 (by omega)
  have e2 := h 2 (by omega)
  have e3 := h 3 (by omega)
  have e4 := h 4 (by omega)
  unfold part
  simp only [e0, e1, e2, e3, e4]

/-- The rounds look at the five registers only. -/
theorem last_congr (R S : ℕ → Reg) (o : Vec Ideal S1x1 .f32) (h : ∀ k < 5, R k = S k) :
    vout (vlog R) o = vout (vlog S) o := by
  rw [← last_eq, ← last_eq, h 0 (by omega), h 1 (by omega), h 2 (by omega), h 3 (by omega), h 4 (by omega)]

/-- The registers over the first four chunks. -/
def load (y : Dots) : ℕ → Reg :=
  vins (vins (vins (start y) (cut y 1 (by omega))) (cut y 2 (by omega))) (cut y 3 (by omega))

/-- Registers that start as the first part leaves them and go through the ten parts are the step's. -/
theorem through (i : grid0.Coords) (v5 : Vec Ideal S512x256 .f32) (v6 : Vec Ideal S8192x256 .f32) (w : ℕ → ℕ → Reg)
    (h0 : ∀ k < 5, w 0 k = load (k0_pay3 i v5 v6) k) (h : ∀ (n : Fin 10) (k : ℕ), k < 5 → w (n.val + 1) k = part (k0_pay3 i v5 v6) (w n.val) n k) :
    ∀ n ≤ 10, ∀ k < 5, w n k = upto i v5 v6 n k := by
  intro n
  induction n with
  | zero => intro _ k hk; rw [h0 k hk]; exact (first_eq i v5 v6 k hk).symm
  | succ n ih =>
    intro hn k hk
    have hlt : n < 10 := by omega
    rw [h ⟨n, hlt⟩ k hk, upto, dif_pos hlt]
    exact congrFun (part_congr _ _ _ _ (fun j hj => ih (by omega) j hj)) k

variable (c : Dev nD) (i : grid0.Coords) (a1 : Memref sig .tc .vmem S8192x256 .f32) (h1 : a1.IsWhole)
  (a2 : Memref sig .tc .vmem S1x1 .f32) (h2 : a2.IsWhole) (a3 : Memref sig .tc .vmem S8192x256 .f32) (h3 : a3.IsWhole)

section
open kernelRun0_B.sl

/-- The registers of a later step after each part. -/
def later (y : Vec Ideal S8192x256 .f32) : ℕ → ℕ → Reg
  | 0 => five (v39 c i a3 h3 y) (v41 c i a3 h3 y) (v43 c i a3 h3 y) (v45 c i a3 h3 y) (v47 c i a3 h3 y)
  | 1 => five (v99 c i a3 h3 y) (v101 c i a3 h3 y) (v103 c i a3 h3 y) (v105 c i a3 h3 y) (v107 c i a3 h3 y)
  | 2 => five (v159 c i a3 h3 y) (v161 c i a3 h3 y) (v163 c i a3 h3 y) (v165 c i a3 h3 y) (v167 c i a3 h3 y)
  | 3 => five (v219 c i a3 h3 y) (v221 c i a3 h3 y) (v223 c i a3 h3 y) (v225 c i a3 h3 y) (v227 c i a3 h3 y)
  | 4 => five (v279 c i a3 h3 y) (v281 c i a3 h3 y) (v283 c i a3 h3 y) (v285 c i a3 h3 y) (v287 c i a3 h3 y)
  | 5 => five (v339 c i a3 h3 y) (v341 c i a3 h3 y) (v343 c i a3 h3 y) (v345 c i a3 h3 y) (v347 c i a3 h3 y)
  | 6 => five (v399 c i a3 h3 y) (v401 c i a3 h3 y) (v403 c i a3 h3 y) (v405 c i a3 h3 y) (v407 c i a3 h3 y)
  | 7 => five (v459 c i a3 h3 y) (v461 c i a3 h3 y) (v463 c i a3 h3 y) (v465 c i a3 h3 y) (v467 c i a3 h3 y)
  | 8 => five (v519 c i a3 h3 y) (v521 c i a3 h3 y) (v523 c i a3 h3 y) (v525 c i a3 h3 y) (v527 c i a3 h3 y)
  | 9 => five (v579 c i a3 h3 y) (v581 c i a3 h3 y) (v583 c i a3 h3 y) (v585 c i a3 h3 y) (v587 c i a3 h3 y)
  | 10 => five (v639 c i a3 h3 y) (v641 c i a3 h3 y) (v643 c i a3 h3 y) (v645 c i a3 h3 y) (v647 c i a3 h3 y)
  | _ => fun _ => v39 c i a3 h3 y

theorem later_load (y : Vec Ideal S8192x256 .f32) (k : ℕ) (hk : k < 5) : later c i a3 h3 y 0 k = load (v15 c i a3 h3 y) k := by
  interval_cases k <;> rfl

theorem later_part (y : Vec Ideal S8192x256 .f32) (n : Fin 10) (k : ℕ) (hk : k < 5) :
    later c i a3 h3 y (n.val + 1) k = part (v15 c i a3 h3 y) (later c i a3 h3 y n.val) n k := by
  fin_cases n <;> interval_cases k <;> rfl

set_option maxHeartbeats 1000000 in
/-- A later step adds its contribution to what the output held, over the rows the scratch holds. -/
theorem out_later (hc : ¬cond0_0 i) (x y : Vec Ideal S8192x256 .f32) (o : Vec Ideal S1x1 .f32) :
    out0_B_1 c i a1 h1 a2 h2 a3 h3 hc x o y = step i (rows i y) y o := by
  unfold out0_B_1
  rw [View.read_writes_eq_canon _ _ _ (cover0_B_1 c i a1 h1 a2 h2 a3 h3 hc x o y)]
  unfold kernelRun0_B
  dsimp only
  rw [View.canon_unit_zero offsets]
  have e15 : v15 c i a3 h3 y = k0_pay3 i (rows i y) y := by
    unfold v15 v7
    rw [View.readAt_eq_ld, View.readAt_eq_ld, h3.read_unread, View.ld_unit_zero (S := S8192x256) offsets]
    rfl
  have hr := last_congr (later c i a3 h3 y 10) (upto i (rows i y) y 10) o
    (through i (rows i y) y (later c i a3 h3 y) (fun k hk => by rw [← e15]; exact later_load c i a3 h3 y k hk)
      (fun n k hk => by rw [← e15]; exact later_part c i a3 h3 y n k hk) 10 le_rfl)
  unfold step
  rw [← hr, ← last_eq]
  unfold r
  rw [View.readAt_eq_ld, h2.read_unread, View.ld_unit_zero (S := S1x1) offsets]
  rfl

end

section
open kernelRun0_A.sl

/-- The registers of the first step after each part. -/
def early (x : Vec Ideal S8192x256 .f32) : ℕ → ℕ → Reg
  | 0 => five (v39 c i a1 h1 a3 x) (v41 c i a1 h1 a3 x) (v43 c i a1 h1 a3 x) (v45 c i a1 h1 a3 x) (v47 c i a1 h1 a3 x)
  | 1 => five (v99 c i a1 h1 a3 x) (v101 c i a1 h1 a3 x) (v103 c i a1 h1 a3 x) (v105 c i a1 h1 a3 x) (v107 c i a1 h1 a3 x)
  | 2 => five (v159 c i a1 h1 a3 x) (v161 c i a1 h1 a3 x) (v163 c i a1 h1 a3 x) (v165 c i a1 h1 a3 x) (v167 c i a1 h1 a3 x)
  | 3 => five (v219 c i a1 h1 a3 x) (v221 c i a1 h1 a3 x) (v223 c i a1 h1 a3 x) (v225 c i a1 h1 a3 x) (v227 c i a1 h1 a3 x)
  | 4 => five (v279 c i a1 h1 a3 x) (v281 c i a1 h1 a3 x) (v283 c i a1 h1 a3 x) (v285 c i a1 h1 a3 x) (v287 c i a1 h1 a3 x)
  | 5 => five (v339 c i a1 h1 a3 x) (v341 c i a1 h1 a3 x) (v343 c i a1 h1 a3 x) (v345 c i a1 h1 a3 x) (v347 c i a1 h1 a3 x)
  | 6 => five (v399 c i a1 h1 a3 x) (v401 c i a1 h1 a3 x) (v403 c i a1 h1 a3 x) (v405 c i a1 h1 a3 x) (v407 c i a1 h1 a3 x)
  | 7 => five (v459 c i a1 h1 a3 x) (v461 c i a1 h1 a3 x) (v463 c i a1 h1 a3 x) (v465 c i a1 h1 a3 x) (v467 c i a1 h1 a3 x)
  | 8 => five (v519 c i a1 h1 a3 x) (v521 c i a1 h1 a3 x) (v523 c i a1 h1 a3 x) (v525 c i a1 h1 a3 x) (v527 c i a1 h1 a3 x)
  | 9 => five (v579 c i a1 h1 a3 x) (v581 c i a1 h1 a3 x) (v583 c i a1 h1 a3 x) (v585 c i a1 h1 a3 x) (v587 c i a1 h1 a3 x)
  | 10 => five (v639 c i a1 h1 a3 x) (v641 c i a1 h1 a3 x) (v643 c i a1 h1 a3 x) (v645 c i a1 h1 a3 x) (v647 c i a1 h1 a3 x)
  | _ => fun _ => v39 c i a1 h1 a3 x

theorem early_load (x : Vec Ideal S8192x256 .f32) (k : ℕ) (hk : k < 5) : early c i a1 h1 a3 x 0 k = load (v15 c i a1 h1 a3 x) k := by
  interval_cases k <;> rfl

theorem early_part (x : Vec Ideal S8192x256 .f32) (n : Fin 10) (k : ℕ) (hk : k < 5) :
    early c i a1 h1 a3 x (n.val + 1) k = part (v15 c i a1 h1 a3 x) (early c i a1 h1 a3 x n.val) n k := by
  fin_cases n <;> interval_cases k <;> rfl

/-- The first step leaves in the scratch every row divided by its length. -/
theorem scratch_first (hc : cond0_0 i) (x : Vec Ideal S8192x256 .f32) :
    sout0_A_0 c i a1 h1 a2 h2 a3 h3 hc x = k0_pay1 x := by
  unfold sout0_A_0
  rw [View.read_writes_eq_canon _ _ _ (scover0_A_0 c i a1 h1 a2 h2 a3 h3 hc x)]
  unfold kernelRun0_A
  dsimp only
  sl_unfold_words
  rw [View.canon_unit_zero offsets, View.readAt_eq_ld, h1.read_unread, View.ld_unit_zero (S := S8192x256) offsets]
  rfl

set_option maxHeartbeats 1000000 in
/-- The first step adds its contribution to zero, over the rows it has just written into the scratch. -/
theorem out_first (hc : cond0_0 i) (x : Vec Ideal S8192x256 .f32) :
    out0_A_1 c i a1 h1 a2 h2 a3 h3 hc x = step i (rows i (k0_pay1 x)) (k0_pay1 x) (k0_pay2 (F := Ideal)) := by
  unfold out0_A_1
  rw [View.read_writes_eq_canon _ _ _ (cover0_A_1 c i a1 h1 a2 h2 a3 h3 hc x)]
  unfold kernelRun0_A
  dsimp only
  rw [View.canon_cons_unit_zero offsets]
  have e742 : v742 c a1 h1 x = k0_pay1 x := by
    sl_unfold_words
    rw [View.readAt_eq_ld, h1.read_unread, View.ld_unit_zero (S := S8192x256) offsets]
    rfl
  have e6 : v6 c a1 h1 a3 x = k0_pay1 x := by
    unfold v6 HS0_1
    rw [View.readCov_unit_zero (S := S8192x256) _ offsets, e742]
  have e15 : v15 c i a1 h1 a3 x = k0_pay3 i (rows i (k0_pay1 x)) (k0_pay1 x) := by
    unfold v15 v7
    rw [e6]
    unfold HS0_1
    rw [View.readAt_eq_ld, View.read_writes_eq_canon _ _ _ (fun y => ⟨_, List.mem_cons_self, everywhere offsets inb_S8192x256_S8192x256_0_0 y⟩),
      View.canon_unit_zero offsets, e742]
    rfl
  have hr := last_congr (early c i a1 h1 a3 x 10) (upto i (rows i (k0_pay1 x)) (k0_pay1 x) 10) (k0_pay2 (F := Ideal))
    (through i (rows i (k0_pay1 x)) (k0_pay1 x) (early c i a1 h1 a3 x)
      (fun k hk => by rw [← e15]; exact early_load c i a1 h1 a3 x k hk)
      (fun n k hk => by rw [← e15]; exact early_part c i a1 h1 a3 x n k hk) 10 le_rfl)
  have e719 : v719 (F := Ideal) c a2 = k0_pay2 (F := Ideal) := by
    unfold v719 H1_1
    rw [View.readCov_unit_zero (S := S1x1) _ offsets]
    rfl
  unfold step
  rw [← hr, ← last_eq]
  unfold r
  rw [e719]
  rfl

end

end Cert.Steps

end

end
-- ==== Proof.Final.lean ====
/- What the kernel's result holds after the run, as one expression over the input: the steps' contributions added up from zero, negated and
   divided by the number of rows. -/
module

public import proofs.«01_k».proof.Proof.Steps
public import Idealize.ShloMosaic.PureOps.Ideal.Laws

@[expose] public section

set_option maxRecDepth 16384

noncomputable section

namespace Cert.Final

open Idealize.ShloMosaic Idealize.ShloMosaic.TcCoe Idealize.SL.Sem Cert.KernelIdeal Cert.KernelIdeal.Gen Cert.Rounds Cert.Steps

variable (m : (ℓ : Loc nD τ sig) → Buf (Elt Ideal) ℓ) (ρ : Dev nD → PrngReg)

/-- The input. -/
abbrev input (c : Dev nD) : Vec Ideal S8192x256 .f32 := m ((c.tc : Thread nD τ).loc main_arg0)

/-- The grid point's block of the input is the whole input. -/
theorem block_eq (c : Dev nD) (t : Fin cfg0.N) : iblk m c 0 t = input m c := by
  have hz : (fun a => win0_0.index t a * main_arg0.ty.shape.size a) = fun _ => 0 := funext fun a => by
    have h : win0_0.index t = ![0, 0] := rfl
    rw [h]; fin_cases a <;> rfl
  exact Memref.read_access_unit_zero (Elt Ideal) main_arg0 hz (fun a => by rw [congrFun hz a]; simp) (input m c)

/-- The output after the steps `0, …, n`. -/
def acc (x : Vec Ideal S8192x256 .f32) : (n : ℕ) → n < cfg0.N → FVec Ideal S1x1 .f32
  | 0, h => step (grid0.coords ⟨0, h⟩) (rows (grid0.coords ⟨0, h⟩) (k0_pay1 x)) (k0_pay1 x) (k0_pay2 (F := Ideal))
  | n + 1, h => step (grid0.coords ⟨n + 1, h⟩) (rows (grid0.coords ⟨n + 1, h⟩) (k0_pay1 x)) (k0_pay1 x) (acc x n (Nat.lt_of_succ_lt h))

/-- The buffers after each step: the running sum and the rows of length one. -/
theorem outs_eq (c : Dev nD) : ∀ (n : ℕ) (h : n < cfg0.N), outsAt0 m c n h = (acc (input m c) n h, k0_pay1 (input m c))
  | 0, h => by
    refine (outsAt0_A m c ⟨0, h⟩ rfl).trans ?_
    rw [out_first, scratch_first, block_eq]
    rfl
  | n + 1, h => by
    have hN : cfg0.N = 16 := N_0
    have hB : ¬(⟨n + 1, h⟩ : Fin cfg0.N).val % 16 = 0 := by dsimp only; omega
    refine (outsAt0_B m c ⟨n + 1, h⟩ hB).trans ?_
    rw [out_later]
    have ih := outs_eq c n (Nat.lt_of_succ_lt h)
    show (step _ (rows _ (outsAt0 m c n _).2) (outsAt0 m c n _).2 (outsAt0 m c n _).1, (outsAt0 m c n _).2) = _
    rw [ih]
    rfl

/-- The output array after the last step. -/
abbrev total (x : Vec Ideal S8192x256 .f32) : FVec Ideal S1x1 .f32 := acc x 15 (by rw [show cfg0.N = 16 from N_0]; decide)

/-- Only the last step's contents are written back, and they are the whole array. -/
theorem flushed_eq (c : Dev nD) (t : Fin cfg0.N) (hf : (cfg0.win 1).flush t = true) :
    (dats m 0 c).flushed 1 t = ((cfg0.win 1).blk t).view.read (Elt Ideal) (total (input m c) : Buf (Elt Ideal) ((c : Thread nD τ).loc main_v0)) := by
  have hN : cfg0.N = 16 := N_0
  have h15 : t.val = 15 := by have := (flush0_1 t).mp hf; have := t.isLt; omega
  show (cfg0.win 1).cut (grid0.coords t) ((dats m 0 c).after 1 t) = _
  rw [after0_1, outs_eq]
  have hz : (fun a => win0_1.index t a * main_v0.ty.shape.size a) = fun _ => 0 := funext fun a => by
    have h : win0_1.index t = ![0, 0] := rfl
    rw [h]; fin_cases a <;> rfl
  obtain ⟨n, hn⟩ := t
  obtain rfl : n = 15 := h15
  exact (Memref.read_access_unit_zero (Elt Ideal) main_v0 hz (fun a => by rw [congrFun hz a]; simp) (total (input m c))).symm

theorem mem_blk (t : Fin cfg0.N) (i : S1x1.Idx) : i ∈ ((cfg0.win 1).blk t).view.set := by
  show i ∈ ((View.whole main_v0).slice (win0_1.rect t)).set
  rw [View.set_slice_whole, Rect.mem_set_unit]
  intro a
  have h : win0_1.index t = ![0, 0] := rfl
  show win0_1.index t a * S1x1.size a ≤ (i a).val ∧ (i a).val < win0_1.index t a * S1x1.size a + S1x1.size a
  have h0 : win0_1.index t a * S1x1.size a = 0 := by rw [h]; fin_cases a <;> rfl
  rw [h0]
  exact ⟨Nat.zero_le _, by rw [Nat.zero_add]; exact (i a).isLt⟩

/-- The output array after the run. -/
theorem final_out (c : Dev nD) : (dats m 0 c).arrAt 1 cfg0.N = (total (input m c) : Buf (Elt Ideal) ((c : Thread nD τ).loc main_v0)) :=
  (dats m 0 c).arrAt_eq_of_cover 1 _ (fun t hf => flushed_eq m c t hf) fun i =>
    ⟨⟨15, by rw [show cfg0.N = 16 from N_0]; decide⟩, (flush0_1 _).mpr rfl, mem_blk _ i⟩

/-- The result the operations after the region compute from the output array. -/
def result (o : FVec Ideal S1x1 .f32) : FVec Ideal S_ .f32 :=
  Host.divf (Host.negf (shapeCast S_ o shapeCasts_S1x1_S_)) (constant S_ .f32 0x46000000#32)

end Cert.Final

end

end
-- ==== Proof.Post.lean ====
/- The kernel's run: every final state holds the result named in `Cert.Final`, and the input as it was. -/
module

public import proofs.«01_k».proof.Proof.Final

@[expose] public section

noncomputable section

namespace Cert.Final

open Idealize.ShloMosaic Idealize.ShloMosaic.TcCoe Idealize.SL.Sem Cert.KernelIdeal Cert.KernelIdeal.Gen Cert.Rounds Cert.Steps

variable (m : (ℓ : Loc nD τ sig) → Buf (Elt Ideal) ℓ) (ρ : Dev nD → PrngReg)

/-- The two windows stage two arrays. -/
theorem windows_apart : Function.Injective (Pipeline.arrRef spec0) := by
  intro a b h
  fin_cases a <;> fin_cases b <;> first | rfl | exact absurd h (by decide)

/-- The operations after the region leave in the result buffer what they compute from the output array. -/
theorem tail_eq (c : Dev nD) : Pipeline.afterTail₀ cfgs (dats m) 0 (V0 m) [hostOps1] c main_v3 = (result (total (input m c)) : Buf (Elt Ideal) ((c : Thread nD τ).loc main_v3)) := by
  unfold Pipeline.afterTail₀
  show StableHlo.after hostOps1 _ (Proc.devRef .tc main_v3) = _
  have h : Pipeline.withArrays (cfgs 0).spec c (V0 m c) (fun w => (dats m 0 c).arrAt w (cfgs 0).N) (Proc.devRef .tc main_v0) = _ :=
    (Pipeline.withArrays_arr spec0 windows_apart c (V0 m c) (fun w => (dats m 0 c).arrAt w cfg0.N) 1).trans (final_out m c)
  generalize Pipeline.withArrays (cfgs 0).spec c (V0 m c) (fun w => (dats m 0 c).arrAt w (cfgs 0).N) = V at h ⊢
  unfold hostOps1
  after_results
  rw [h]
  rfl

/-- Every final state of the kernel's run. -/
theorem run : θ_run defs (onTc (τ := τ) (main (F := Ideal))) ⟨m, fun _ => 0, ρ⟩ (fun r => ∀ c : Dev nD,
      r.2.mem ((c.tc : Thread nD τ).loc main_v3) = (result (total (input m c)) : Buf (Elt Ideal) ((c : Thread nD τ).loc main_v3))
      ∧ r.2.mem ((c.tc : Thread nD τ).loc main_arg0) = m ((c.tc : Thread nD τ).loc main_arg0)) :=
  (θ_run defs _ _).mono (fun _ h c => ⟨((h c).2 main_v3 (by decide)).trans (tail_eq m c),
      ((h c).1 0).trans (((dats m 0 c).arrAt_in 0 rfl _).trans ((A_eq m c 0).trans (V_main_arg0 m c)))⟩)
    (run_main m ρ)

end Cert.Final

end

end
-- ==== Proof.Registers.lean ====
/- The kernel's vector registers read at one row and one lane: after all ten parts they are the lane's registers over the row's 64 chunks. -/
module

public import proofs.«01_k».proof.Proof.Rounds
public import proofs.«01_k».proof.Proof.Lanes
public import Idealize.ShloMosaic.PureOps.Ideal.Laws

@[expose] public section

noncomputable section

namespace Cert.Registers

open Idealize.ShloMosaic Idealize.ShloMosaic.ValueIdx Cert.KernelIdeal Cert.KernelIdeal.Gen Cert.Chain Cert.Rounds

/-- A row of the block of dot products, as a sequence. -/
def row (y : Dots) (p : Fin 512) (c : ℕ) : EReal := if h : c < 8192 then y (ix2 p ⟨c, h⟩) else 0

/-- The word the registers start from is −3. -/
theorem floor_word : (FloatOps.ofBits .f32 0xC0400000#32 : Ideal .f32) = ((-3 : ℝ) : EReal) := by
  show Ideal.ofBits .f32 _ = _
  simp [Ideal.ofBits, Ideal.ieee]; rw [← EReal.coe_mul]; norm_num

/-- What is handed down, at one entry. -/
theorem vcarry_at (R : ℕ → Reg) (v : Reg) (j : S512x128.Idx) (k : ℕ) : vcarry R v k j = Lanes.carry (fun n => R n j) (v j) k := by
  induction k with
  | zero => rfl
  | succ k ih => rw [Lanes.carry, ← ih]; rfl

/-- An insertion, at one entry. -/
theorem vins_at (R : ℕ → Reg) (v : Reg) (j : S512x128.Idx) (k : ℕ) : vins R v k j = Lanes.ins (fun n => R n j) (v j) k := by
  rw [Lanes.ins, ← vcarry_at]; rfl

theorem carry_congr {r s : ℕ → EReal} {n : ℕ} (h : ∀ k < n, r k = s k) (v : EReal) (k : ℕ) (hk : k ≤ n) :
    Lanes.carry r v k = Lanes.carry s v k := by
  induction k with
  | zero => rfl
  | succ k ih => rw [Lanes.carry, Lanes.carry, ih (by omega), h k (by omega)]

/-- An insertion into the first registers looks at those only. -/
theorem ins_congr {r s : ℕ → EReal} {n : ℕ} (h : ∀ k < n, r k = s k) (v : EReal) (k : ℕ) (hk : k < n) :
    Lanes.ins r v k = Lanes.ins s v k := by
  rw [Lanes.ins, Lanes.ins, carry_congr h v k hk.le, h k hk]

/-- The five registers hold what the lanes' registers hold after the chunks `0, …, c`. -/
def Holds (y : Dots) (c : ℕ) (R : ℕ → Reg) : Prop :=
  ∀ k < 5, ∀ (p : Fin 512) (l : Fin 128), R k (ix2 p l) = Lanes.regs ((-3 : ℝ) : EReal) (fun n => row y p (128 * n + l)) c k

theorem row_cut (y : Dots) (c : ℕ) (h : c < 64) (p : Fin 512) (l : Fin 128) : cut y c h (ix2 p l) = row y p (128 * c + l) := by
  rw [cut_at, row, dif_pos]

theorem holds_start (y : Dots) : Holds y 0 (start y) := by
  intro k _ p l
  cases k with
  | zero => exact row_cut y 0 (by omega) p l
  | succ k => exact floor_word

theorem holds_ins (y : Dots) (c : ℕ) (h : c + 1 < 64) (R : ℕ → Reg) (hR : Holds y c R) : Holds y (c + 1) (vins R (cut y (c + 1) h)) := by
  intro k hk p l
  rw [vins_at, row_cut, Lanes.regs]
  exact ins_congr (fun j hj => hR j hj p l) _ k hk

theorem holds_congr {y : Dots} {c : ℕ} {R S : ℕ → Reg} (h : ∀ k < 5, R k = S k) (hS : Holds y c S) : Holds y c R :=
  fun k hk p l => by rw [h k hk]; exact hS k hk p l

theorem holds_six (y : Dots) (c : ℕ) (h : c + 1 + 5 < 64) (R : ℕ → Reg) (hR : Holds y c R) : Holds y (c + 6) (six y R (c + 1) h) :=
  holds_ins y _ _ _ (holds_ins y _ _ _ (holds_ins y _ _ _ (holds_ins y _ _ _ (holds_ins y _ _ _ (holds_ins y c _ R hR)))))

theorem six_at (y : Dots) (R : ℕ → Reg) (a b : ℕ) (e : a = b) (ha : a + 5 < 64) (hb : b + 5 < 64) (k : ℕ) : six y R a ha k = six y R b hb k := by
  subst e; rfl

variable (i : grid0.Coords) (v5 : Vec Ideal S512x256 .f32) (v6 : Vec Ideal S8192x256 .f32)

/-- The registers after `n` parts hold the first `4 + 6 n` chunks. -/
theorem holds_upto (n : ℕ) (hn : n ≤ 10) : Holds (k0_pay3 i v5 v6) (3 + 6 * n) (upto i v5 v6 n) := by
  induction n with
  | zero => exact holds_congr (first_eq i v5 v6) (holds_ins _ 2 (by omega) _ (holds_ins _ 1 (by omega) _ (holds_ins _ 0 (by omega) _ (holds_start _))))
  | succ n ih =>
    have hlt : n < 10 := by omega
    have e : upto i v5 v6 (n + 1) = part (k0_pay3 i v5 v6) (upto i v5 v6 n) ⟨n, hlt⟩ := by rw [upto, dif_pos hlt]
    rw [e]
    refine holds_congr (S := six (k0_pay3 i v5 v6) (upto i v5 v6 n) (3 + 6 * n + 1) (by omega)) (fun k hk => ?_) ?_
    · rw [part_eq _ _ _ k hk]
      exact six_at _ _ _ _ (by show 4 + 6 * n = 3 + 6 * n + 1; omega) _ _ k
    · exact holds_six _ (3 + 6 * n) (by omega) _ (ih (by omega))

/-- One register index, row and lane at a time: what the first `n` registers of a family hold. -/
def Reads (n : ℕ) (R : ℕ → Reg) (p : Fin 512) (r : ℕ → ℕ → EReal) : Prop := ∀ j < n, ∀ l : Fin 128, R j (ix2 p l) = r j l

/-- After all ten parts the registers hold the whole row. -/
theorem reads_upto (p : Fin 512) : Reads 5 (upto i v5 v6 10) p
    (fun j l => Lanes.regs ((-3 : ℝ) : EReal) (fun c => row (k0_pay3 i v5 v6) p (128 * c + l)) 63 j) :=
  fun j hj l => holds_upto i v5 v6 10 le_rfl j hj p l

/-- A number per row, read at a row. -/
theorem column_at (x : FVec Ideal S512 .f32) (p : Fin 512) : shapeCast S512x1 x shapeCasts_S512_S512x1 (ix2 p (0 : Fin 1)) = x (ix1 p) :=
  shapeCast_apply x _ _ _ (by rw [Shape.rowMajor_val_one, Shape.rowMajor_val_two]; show p.val = p.val * 1 + 0; omega)

/-- The least word is −∞. -/
theorem bottom_word : (FloatOps.ofBits .f32 0xFF800000#32 : Ideal .f32) = (⊥ : EReal) := by
  show Ideal.ofBits .f32 _ = _
  simp [Ideal.ofBits, Ideal.ieee]

/-- A maximum taken from −∞ over the lanes is the greatest entry. -/
theorem fold_lanes (f : ℕ → EReal) : (Finset.univ : Finset (Fin 128)).fold max (⊥ : EReal) (fun l : Fin 128 => f l) = (Finset.range 128).sup f := by
  show (Finset.univ : Finset (Fin 128)).sup (fun l : Fin 128 => f l) = _
  apply le_antisymm
  · exact Finset.sup_le fun l _ => Finset.le_sup (f := f) (Finset.mem_range.mpr l.isLt)
  · exact Finset.sup_le fun l hl => Finset.le_sup (f := fun l : Fin 128 => f l) (Finset.mem_univ (⟨l, Finset.mem_range.mp hl⟩ : Fin 128))

/-- The maximum over the lanes, read at a row. -/
theorem vtop_at {n : ℕ} {R : ℕ → Reg} {p : Fin 512} {r : ℕ → ℕ → EReal} (h : Reads (n + 1) R p r) : vtop R (ix2 p (0 : Fin 1)) = Lanes.top r := by
  unfold vtop
  rw [column_at]
  refine (Ideal.multiReduction_maximumf_single (R 0) _ reduces_S512x128_S512 _ _ (ix1 p)).trans ?_
  rw [bottom_word]
  have e : (R 0 ∘ reduces_S512x128_S512.lift (ix1 p)) = fun l : Fin 128 => r 0 l := by
    funext l
    have hl : reduces_S512x128_S512.lift (ix1 p) l = ix2 p l := by
      funext a; fin_cases a <;> rfl
    show R 0 _ = _
    rw [hl]
    exact h 0 (by omega) l
  rw [e]
  exact fold_lanes (r 0)

/-- A round, read at a row. -/
theorem reads_next {n : ℕ} {R : ℕ → Reg} {p : Fin 512} {r : ℕ → ℕ → EReal} (h : Reads (n + 1) R p r) : Reads n (vnext R) p (Lanes.next r) := by
  intro j hj l
  have hb : broadcastTo S512x128 (vtop R) broadcasts_S512x1_S512x128 (ix2 p l) = Lanes.top r := by
    rw [broadcastTo_apply (vtop R) broadcasts_S512x1_S512x128 (ix2 p l) (ix2 p (0 : Fin 1)) (by intro a; fin_cases a <;> rfl), vtop_at h]
  show Scalar.select (Ideal.cmp .oeq (R 0 (ix2 p l)) (broadcastTo S512x128 (vtop R) broadcasts_S512x1_S512x128 (ix2 p l))) (R (j + 1) (ix2 p l)) (R j (ix2 p l)) = _
  rw [hb, h 0 (by omega) l, h (j + 1) (by omega) l, h j (by omega) l]
  unfold Lanes.next Scalar.select Ideal.cmp
  by_cases e : r 0 l = Lanes.top r <;> simp [e]

/-- Rounds in a row. -/
theorem reads_iterate {R : ℕ → Reg} {p : Fin 512} {r : ℕ → ℕ → EReal} (h : Reads 5 R p r) (k n : ℕ) (hk : n + k = 5) :
    Reads n (vnext^[k] R) p (Lanes.next^[k] r) := by
  induction k generalizing n with
  | zero => obtain rfl : n = 5 := by omega
            exact h
  | succ k ih =>
    rw [Function.iterate_succ_apply', Function.iterate_succ_apply']
    exact reads_next (ih (n + 1) (by omega))

section Pointwise

variable {s : Shape} (x y : FVec Ideal s .f32) (j : s.Idx)

theorem sqrt_at : sqrt x j = Ideal.sqrt (x j) := rfl
theorem log_at : log x j = Ideal.log (x j) := rfl
theorem add_at : addf x y j = (x j : EReal) + y j := rfl
theorem sub_at : subf x y j = (x j : EReal) - y j := rfl
theorem mul_at : mulf x y j = (x j : EReal) * y j := rfl
theorem max_at : maximumf x y j = max (x j : EReal) (y j) := rfl
theorem word_at (w : BitVec 32) : (broadcast s (Scalar.ofBits .f32 w) : FVec Ideal s .f32) j = Ideal.ofBits .f32 w := rfl
theorem splat_at (v : Ideal .f32) : (broadcast s v : FVec Ideal s .f32) j = v := rfl

end Pointwise

/-- The word 2. -/
theorem two_word : Ideal.ofBits .f32 0x40000000#32 = ((2 : ℝ) : EReal) := by
  simp [Ideal.ofBits, Ideal.ieee]; rw [← EReal.coe_mul]; norm_num

/-- The distance of two rows of length one, from their dot product. -/
def gap (t : EReal) : EReal := Ideal.sqrt (max (((2 : ℝ) : EReal) - ((2 : ℝ) : EReal) * t) 0)

theorem vdist_at {n : ℕ} {R : ℕ → Reg} {p : Fin 512} {r : ℕ → ℕ → EReal} (h : Reads (n + 1) R p r) :
    vdist R (ix2 p (0 : Fin 1)) = gap (Lanes.top r) := by
  rw [vdist, sqrt_at, max_at, sub_at, mul_at, word_at, word_at, vtop_at h, two_word, Ideal.ofBits_zero_f32]
  rfl

theorem vsum_at {R : ℕ → Reg} {p : Fin 512} {r : ℕ → ℕ → EReal} (h : Reads 5 R p r) (k : ℕ) (hk : k ≤ 5) :
    vsum R k (ix2 p (0 : Fin 1)) = ∑ j ∈ Finset.range k, gap (Lanes.top (Lanes.next^[j] r)) := by
  induction k with
  | zero => exact Ideal.ofBits_zero_f32
  | succ k ih =>
    rw [Finset.sum_range_succ, ← ih (by omega), ← vdist_at (reads_iterate h k (4 - k + 1) (by omega))]
    rfl

/-- The constant the mean distance is taken with is one fifth. -/
theorem fifth_eq : (Named.named (F := Ideal) κ "fifth" 0x3E4CCCCD#32 : Ideal .f32) = (((5 : ℝ)⁻¹ : ℝ) : EReal) := by
  have h : κ "fifth" = some (((5 : ℝ)⁻¹ : ℝ) : EReal) := rfl
  simp [Named.named, h]

/-- The logarithm of a row's mean distance. -/
theorem vlog_at {R : ℕ → Reg} {p : Fin 512} {r : ℕ → ℕ → EReal} (h : Reads 5 R p r) :
    vlog R (ix2 p (0 : Fin 1)) = Ideal.log ((∑ j ∈ Finset.range 5, gap (Lanes.top (Lanes.next^[j] r))) * (((5 : ℝ)⁻¹ : ℝ) : EReal)
      + Ideal.ofBits .f32 0x322BCC77#32) := by
  rw [vlog, log_at, add_at, mul_at, word_at, splat_at, vsum_at h 5 le_rfl, fifth_eq]

/-- A grid step adds the rows' numbers to what the output held. -/
theorem vout_at (L : Col) (o : Vec Ideal S1x1 .f32) : vout L o (ix2 (0 : Fin 1) (0 : Fin 1)) = o (ix2 (0 : Fin 1) (0 : Fin 1)) + ∑ p : Fin 512, L (ix2 p (0 : Fin 1)) := by
  rw [vout, add_at, shapeCast_self, splat_at]
  congr 1
  unfold extractAt
  rw [shapeCast_apply _ shapeCasts_S1_S1x1x1 _ (ix1 (0 : Fin 1)) (by rw [Shape.rowMajor_val_one, Shape.rowMajor_val_three]; rfl)]
  refine (Ideal.multiReduction_add_total _ _ reduces_S1x512x1_S1 (by decide) _ _ _).trans ?_
  let e : Fin 512 ≃ S1x512x1.Idx := ⟨fun p => ix3 (0 : Fin 1) p (0 : Fin 1), fun i => i 1, fun _ => rfl, fun i => by
    funext a
    fin_cases a
    · exact Subsingleton.elim (α := Fin 1) _ _
    · rfl
    · exact Subsingleton.elim (α := Fin 1) _ _⟩
  refine (Fintype.sum_equiv e _ _ fun p => ?_).symm
  exact (shapeCast_apply L shapeCasts_S512x1_S1x512x1 _ _ (by rw [Shape.rowMajor_val_two, Shape.rowMajor_val_three]; show p.val * 1 + 0 = (0 * 512 + p.val) * 1 + 0; omega)).symm

end Cert.Registers

end

end
-- ==== Proof.Block.lean ====
/- What a grid step reads and computes, entry by entry: rows of length one, and the block's dot products with −3 at a row's own column. -/
module

public import proofs.«01_k».proof.Proof.Steps
public import proofs.«01_k».proof.Proof.Registers

@[expose] public section

noncomputable section

namespace Cert.Block

open Idealize.ShloMosaic Idealize.ShloMosaic.ValueIdx Cert.KernelIdeal Cert.KernelIdeal.Gen Cert.Chain Cert.Rounds Cert.Steps Cert.Registers

/-- The rows, as the programs take them. -/
abbrev Rows := FVec Ideal S8192x256 .f32

/-- The norm of a row. -/
def norm (x : Rows) (i : Fin 8192) : EReal := Ideal.sqrt (∑ k : Fin 256, (x (ix2 i k) : EReal) * x (ix2 i k))

/-- An entry of a row divided by the greater of its norm and the small constant. -/
def unit (x : Rows) (i : Fin 8192) (k : Fin 256) : EReal := Ideal.div (x (ix2 i k)) (max (norm x i) (Ideal.ofBits .f32 0x2B8CBCCC#32))

/-- The kernel's rows of length one. -/
theorem unit_at (x : Rows) (i : Fin 8192) (k : Fin 256) : (k0_pay1 x : Rows) (ix2 i k) = unit x i k := by
  have e : k0_pay1 x = shapeCast S8192x256 (divf x (broadcastTo S8192x256 (maximumf (sqrt (shapeCast S8192x1
      (multiReduction .add [1] S8192 (mulf x x) 0x00000000#32 reduces_S8192x256_S8192 (.inl rfl) rfl) shapeCasts_S8192_S8192x1))
      (broadcast S8192x1 (Scalar.ofBits .f32 0x2B8CBCCC#32))) broadcasts_S8192x1_S8192x256)) shapeCasts_S8192x256_S8192x256 := rfl
  rw [e, shapeCast_self, divf_apply]
  rw [broadcastTo_apply _ broadcasts_S8192x1_S8192x256 (ix2 i k) (ix2 i (0 : Fin 1)) (by intro a; fin_cases a <;> rfl)]
  rw [max_at, sqrt_at, word_at, shapeCast_apply _ shapeCasts_S8192_S8192x1 (ix2 i (0 : Fin 1)) (ix1 i)
    (by rw [Shape.rowMajor_val_one, Shape.rowMajor_val_two]; show i.val = i.val * 1 + 0; omega)]
  refine congrArg (fun z : EReal => Ideal.div (x (ix2 i k)) (max (Ideal.sqrt z) (Ideal.ofBits .f32 0x2B8CBCCC#32))) ?_
  refine (Ideal.multiReduction_add_single _ _ reduces_S8192x256_S8192 _ _ (ix1 i)).trans ?_
  refine Finset.sum_congr rfl fun l _ => ?_
  have hl : reduces_S8192x256_S8192.lift (ix1 i) l = ix2 i l := by
    funext a; fin_cases a <;> rfl
  rw [hl]
  rfl

/-- The grid coordinate of a point. -/
theorem coord (t : Fin cfg0.N) : ((grid0.coords t) 0).val = t.val := by
  have hN : cfg0.N = 16 := N_0
  have ht := t.isLt
  rw [Pipeline.Grid.coords_val t 0 (S := 1) (B := 16) (by decide) rfl]
  omega

/-- The first row of a block. -/
theorem offset (t : Fin cfg0.N) : k0_off1 (grid0.coords t) = ![512 * t.val, 0] := by
  have hN : cfg0.N = 16 := N_0
  have ht := t.isLt
  have hc := coord t
  have hw : (k0_off1 (grid0.coords t)) 0 = 512 * t.val := by
    show (BitVec.ofNat 32 ((grid0.coords t) 0).val * 512#32).toNat = _
    rw [hc, BitVec.toNat_mul, BitVec.toNat_ofNat]
    simp
    omega
  funext a
  fin_cases a
  · exact hw
  · rfl

/-- The number of a row of a block. -/
def at' (t : Fin cfg0.N) (p : Fin 512) : Fin 8192 := ⟨512 * t.val + p.val, by have hN : cfg0.N = 16 := N_0; have := t.isLt; have := p.isLt; omega⟩

/-- The block's rows are the rows from its first on. -/
theorem rows_at (t : Fin cfg0.N) (y : Rows) (p : Fin 512) (k : Fin 256) : rows (grid0.coords t) y (ix2 p k) = y (ix2 (at' t p) k) := by
  unfold rows
  show y _ = y _
  congr 1
  funext a
  apply Fin.ext
  have h := offset t
  fin_cases a
  · show (k0_off1 (grid0.coords t)) 0 + 1 * p.val = _
    rw [h]; simp [at']
  · show (k0_off1 (grid0.coords t)) 1 + 1 * k.val = _
    rw [h]; simp

section Product

variable (i : S512x8192.Idx) (q : dot_S512x256_S8192x256_S512x8192_1_1_0_0_n_n.contr.Idx)

theorem left_row : (dot_S512x256_S8192x256_S512x8192_1_1_0_0_n_n.lhsIdx i q 0).val = (i 0).val := by
  unfold DotDims.lhsIdx
  rw [dif_neg (show ¬(0 : Fin S512x256.rank) ∈ dot_S512x256_S8192x256_S512x8192_1_1_0_0_n_n.lhsBatch by decide),
    dif_pos (show (0 : Fin S512x256.rank) ∈ dot_S512x256_S8192x256_S512x8192_1_1_0_0_n_n.lhsNonContracting by decide)]
  rfl

theorem right_row : (dot_S512x256_S8192x256_S512x8192_1_1_0_0_n_n.rhsIdx i q 0).val = (i 1).val := by
  unfold DotDims.rhsIdx
  rw [dif_neg (show ¬(0 : Fin S8192x256.rank) ∈ dot_S512x256_S8192x256_S512x8192_1_1_0_0_n_n.rhsBatch by decide),
    dif_pos (show (0 : Fin S8192x256.rank) ∈ dot_S512x256_S8192x256_S512x8192_1_1_0_0_n_n.rhsNonContracting by decide)]
  rfl

end Product

/-- The product of a block's rows with all rows, at an entry. -/
theorem product_at (v5 : FVec Ideal S512x256 .f32) (v6 : Rows) (p : Fin 512) (c : Fin 8192) :
    matmul dot_S512x256_S8192x256_S512x8192_1_1_0_0_n_n none v5 v6 (constant S512x8192 .f32 0x00000000#32) (ix2 p c)
      = ∑ k : Fin 256, (v5 (ix2 p k) : EReal) * v6 (ix2 c k) := by
  simp only [matmul]
  rw [Ideal.matmul_constant_zero_apply, ← Equiv.sum_comp (contrEquiv1 dot_S512x256_S8192x256_S512x8192_1_1_0_0_n_n 256 rfl rfl).symm]
  refine Finset.sum_congr rfl fun k _ => ?_
  have hk := contrEquiv1_symm_val dot_S512x256_S8192x256_S512x8192_1_1_0_0_n_n 256 rfl rfl k
  generalize (contrEquiv1 dot_S512x256_S8192x256_S512x8192_1_1_0_0_n_n 256 rfl rfl).symm k = q at hk
  have el : dot_S512x256_S8192x256_S512x8192_1_1_0_0_n_n.lhsIdx (ix2 p c) q = ix2 p k := by
    funext a
    apply Fin.ext
    fin_cases a
    · exact left_row _ _
    · exact (dot_S512x256_S8192x256_S512x8192_1_1_0_0_n_n.lhsIdx_val_of_single rfl _ _).trans hk
  have er : dot_S512x256_S8192x256_S512x8192_1_1_0_0_n_n.rhsIdx (ix2 p c) q = ix2 c k := by
    funext a
    apply Fin.ext
    fin_cases a
    · exact right_row _ _
    · exact (dot_S512x256_S8192x256_S512x8192_1_1_0_0_n_n.rhsIdx_val_of_single rfl _ _).trans hk
  rw [el, er]

/-- The block of dot products a step works on: −3 at a row's own column. -/
theorem dots_at (t : Fin cfg0.N) (v5 : FVec Ideal S512x256 .f32) (v6 : Rows) (p : Fin 512) (c : Fin 8192) :
    (k0_pay3 (grid0.coords t) v5 v6 : FVec Ideal S512x8192 .f32) (ix2 p c) = if c = at' t p then ((-3 : ℝ) : EReal) else ∑ k : Fin 256, (v5 (ix2 p k) : EReal) * v6 (ix2 c k) := by
  have hN : cfg0.N = 16 := N_0
  have ht := t.isLt
  have e : (k0_pay3 (grid0.coords t) v5 v6 : FVec Ideal S512x8192 .f32) (ix2 p c)
      = Scalar.select (IntOp.cmpi .eq (iota .tc S512x8192 32 [1] iota_S512x8192_d1_w32 (ix2 p c))
          (iota .tc S512x8192 32 [0] iota_S512x8192_d0_w32 (ix2 p c) + BitVec.ofNat 32 ((grid0.coords t) 0).val * 512#32))
        (FloatOps.ofBits .f32 0xC0400000#32 : Ideal .f32)
        (matmul dot_S512x256_S8192x256_S512x8192_1_1_0_0_n_n none v5 v6 (constant S512x8192 .f32 0x00000000#32) (ix2 p c)) := rfl
  rw [e, product_at, iota_single_apply, iota_single_apply, coord, floor_word]
  have hb : (BitVec.ofNat 32 c.val = BitVec.ofNat 32 p.val + BitVec.ofNat 32 t.val * 512#32) ↔ c = at' t p := by
    rw [← BitVec.toNat_inj, Fin.ext_iff]
    simp only [BitVec.toNat_add, BitVec.toNat_mul, BitVec.toNat_ofNat, at']
    omega
  generalize BitVec.ofNat 32 p.val + BitVec.ofNat 32 t.val * 512#32 = b at hb ⊢
  generalize BitVec.ofNat 32 c.val = a at hb ⊢
  by_cases h : c = at' t p
  · rw [if_pos h, hb.mpr h]
    simp [Scalar.select, IntOp.cmpi]
  · rw [if_neg h]
    have hab : (a == b) = false := by simpa using mt hb.mp h
    show (if BitVec.ofBool (a == b) = 1#1 then _ else _) = _
    rw [hab]
    rfl

end Cert.Block

end

end
-- ==== Proof.Geometry.lean ====
/- Unit rows over the reals, and when a row of extended reals divided by its norm is one: the facts about dot products and
   distances that the two programs' losses rest on. -/
module

public import Idealize.ShloMosaic.PureOps.Ideal.Laws

@[expose] public section

noncomputable section

namespace Cert.Geometry

open Idealize.ShloMosaic

/-- A finite sum of reals, read as an extended real, is the sum of the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The square of an extended real is never negative. -/
theorem sq_nonneg' (a : EReal) : 0 ≤ a * a := by
  induction a with
  | bot => simp
  | top => simp
  | coe r => rw [← EReal.coe_mul]; exact_mod_cast mul_self_nonneg r

/-- An extended real whose square is below `⊤` is a real. -/
theorem real_of_sq_lt_top {a : EReal} (h : a * a < ⊤) : ∃ r : ℝ, a = r := by
  induction a with
  | bot => simp at h
  | top => simp at h
  | coe r => exact ⟨r, rfl⟩

/-- A row of extended reals whose norm is at least a positive `c` and below `⊤`, divided by the greater of that norm and
    `c`, is a row of reals whose squares sum to one. -/
theorem unit_row {ι : Type} [Fintype ι] (f : ι → EReal) (c : ℝ) (hc : 0 < c)
    (h1 : (c : EReal) ≤ Ideal.sqrt (∑ k, f k * f k)) (h2 : Ideal.sqrt (∑ k, f k * f k) < ⊤) :
    ∃ u : ι → ℝ, (∀ k, Ideal.div (f k) (max (Ideal.sqrt (∑ k, f k * f k)) c) = u k) ∧ ∑ k, u k * u k = 1 := by
  have hS : ∑ k, f k * f k < ⊤ := by
    rw [lt_top_iff_ne_top]
    intro h
    rw [h, Ideal.sqrt_top] at h2
    exact lt_irrefl _ h2
  have hr : ∀ k, ∃ r : ℝ, f k = r := fun k =>
    real_of_sq_lt_top ((Finset.single_le_sum (f := fun k => f k * f k) (fun i _ => sq_nonneg' (f i)) (Finset.mem_univ k)).trans_lt hS)
  choose r hr using hr
  have hsum : ∑ k, f k * f k = ((∑ k, r k * r k : ℝ) : EReal) := by
    rw [coe_sum]
    exact Finset.sum_congr rfl fun k _ => by rw [hr, EReal.coe_mul]
  set S : ℝ := ∑ k, r k * r k with hSdef
  have hS0 : 0 ≤ S := Finset.sum_nonneg fun k _ => mul_self_nonneg _
  have hsq : Ideal.sqrt (∑ k, f k * f k) = ((Real.sqrt S : ℝ) : EReal) := by
    rw [hsum, Ideal.sqrt_coe, if_neg (not_lt.mpr hS0)]
  rw [hsq] at h1
  have hcS : c ≤ Real.sqrt S := by exact_mod_cast h1
  have hpos : 0 < Real.sqrt S := hc.trans_le hcS
  refine ⟨fun k => r k / Real.sqrt S, fun k => ?_, ?_⟩
  · rw [hsq, max_eq_left h1, hr k, Ideal.div, if_neg (by exact_mod_cast hpos.ne'), ← EReal.coe_inv, ← EReal.coe_mul]
    exact congrArg _ (div_eq_mul_inv _ _).symm
  · have : ∀ k, r k / Real.sqrt S * (r k / Real.sqrt S) = r k * r k / S := by
      intro k
      rw [div_mul_div_comm, Real.mul_self_sqrt hS0]
    simp only [this]
    rw [← Finset.sum_div, ← hSdef, div_self]
    intro h0
    rw [h0, Real.sqrt_zero] at hpos
    exact lt_irrefl _ hpos

section rows

variable {ι κ : Type} [Fintype κ]

/-- The dot product of rows `i` and `j`. -/
def dot (u : ι → κ → ℝ) (i j : ι) : ℝ := ∑ k, u i k * u j k

variable {u : ι → κ → ℝ} (hu : ∀ i, ∑ k, u i k * u i k = 1)

include hu

/-- The squared distance of two unit rows. -/
theorem sum_sub_sq (i j : ι) : ∑ k, (u i k - u j k) * (u i k - u j k) = 2 - 2 * dot u i j := by
  have e : ∀ k, (u i k - u j k) * (u i k - u j k) = u i k * u i k + u j k * u j k - 2 * (u i k * u j k) := fun k => by ring
  simp only [e, Finset.sum_sub_distrib, Finset.sum_add_distrib, ← Finset.mul_sum, hu, dot]
  norm_num

/-- The squared norm of the sum of two unit rows. -/
theorem sum_add_sq (i j : ι) : ∑ k, (u i k + u j k) * (u i k + u j k) = 2 + 2 * dot u i j := by
  have e : ∀ k, (u i k + u j k) * (u i k + u j k) = u i k * u i k + u j k * u j k + 2 * (u i k * u j k) := fun k => by ring
  simp only [e, Finset.sum_add_distrib, ← Finset.mul_sum, hu, dot]
  norm_num

/-- The dot product of two unit rows is at most one. -/
theorem dot_le_one (i j : ι) : dot u i j ≤ 1 := by
  have h := sum_sub_sq hu i j
  have h0 : 0 ≤ ∑ k, (u i k - u j k) * (u i k - u j k) := Finset.sum_nonneg fun k _ => mul_self_nonneg _
  linarith

/-- Unit rows whose dot product is at most minus one are opposite. -/
theorem opposite {i j : ι} (h : dot u i j ≤ -1) (k : κ) : u j k = -u i k := by
  have h1 := sum_add_sq hu i j
  have h0 : ∑ k, (u i k + u j k) * (u i k + u j k) = 0 :=
    le_antisymm (by linarith) (Finset.sum_nonneg fun k _ => mul_self_nonneg _)
  have h2 := (Finset.sum_eq_zero_iff_of_nonneg (fun k _ => mul_self_nonneg (u i k + u j k))).mp h0 k (Finset.mem_univ k)
  have h3 := mul_self_eq_zero.mp h2
  linarith

/-- Two unit rows opposite to the same row have dot product one. -/
theorem dot_eq_one {i j l : ι} (hj : dot u i j ≤ -1) (hl : dot u i l ≤ -1) : dot u j l = 1 := by
  unfold dot
  rw [← hu i]
  exact Finset.sum_congr rfl fun k _ => by rw [opposite hu hj, opposite hu hl]; ring

/-- The distance of two unit rows, as the reference measures it, is what the kernel computes from their dot product. -/
theorem dist_eq (i j : ι) :
    Ideal.sqrt (∑ k, ((u i k : EReal) - (u j k : EReal)) * ((u i k : EReal) - (u j k : EReal)))
      = Ideal.sqrt (max (2 - 2 * ((dot u i j : ℝ) : EReal)) 0) := by
  have h : ∑ k, ((u i k : EReal) - (u j k : EReal)) * ((u i k : EReal) - (u j k : EReal))
      = ((2 - 2 * dot u i j : ℝ) : EReal) := by
    rw [← sum_sub_sq hu, coe_sum]
    exact Finset.sum_congr rfl fun k _ => by rw [EReal.coe_mul, EReal.coe_sub]
  have h2 : (2 : EReal) - 2 * ((dot u i j : ℝ) : EReal) = ((2 - 2 * dot u i j : ℝ) : EReal) := by
    rw [EReal.coe_sub, EReal.coe_mul]; rfl
  rw [h, h2, max_eq_left]
  have := dot_le_one hu i j
  exact_mod_cast (by linarith : (0 : ℝ) ≤ 2 - 2 * dot u i j)

end rows

/-- `s` lists the positions of the five greatest entries of `w`, which are five different values: after position `k` no other
    position holds a greater entry. -/
structure Picks {n : ℕ} (w : Fin n → EReal) (s : Fin 5 → Fin n) : Prop where
  rest : ∀ k c, (∀ j ≤ k, c ≠ s j) → w c ≤ w (s k)
  strict : ∀ k : Fin 4, w (s k.succ) < w (s k.castSucc)

/-- Later picks are smaller. -/
theorem Picks.anti {n : ℕ} {w : Fin n → EReal} {s : Fin 5 → Fin n} (h : Picks w s) : StrictAnti (w ∘ s) :=
  Fin.strictAnti_iff_succ_lt.mpr h.strict

/-- The picks are different positions. -/
theorem Picks.injective {n : ℕ} {w : Fin n → EReal} {s : Fin 5 → Fin n} (h : Picks w s) : Function.Injective s :=
  Function.Injective.of_comp h.anti.injective

/-- The entries the five nearest rows are chosen from: the dot products of row `i`, with `z` at `i` itself. -/
def masked {κ : Type} [Fintype κ] {n : ℕ} (u : Fin n → κ → ℝ) (z : ℝ) (i c : Fin n) : EReal := ((if c = i then z else dot u i c : ℝ) : EReal)

/-- When the five greatest entries of EVERY row are different values, all of them lie above minus one: were the fifth of
    some row not above it, nearly all rows would be opposite to that row, so two of them would be the two equal greatest
    entries of a third. -/
theorem neg_one_lt_pick {κ : Type} [Fintype κ] {n : ℕ} (hn : 8 ≤ n) {u : Fin n → κ → ℝ} (hu : ∀ i, ∑ k, u i k * u i k = 1)
    {s : Fin n → Fin 5 → Fin n} (h : ∀ i, Picks (masked u (-1) i) (s i)) (i : Fin n) (k : Fin 5) :
    ((-1 : ℝ) : EReal) < masked u (-1) i (s i k) := by
  refine lt_of_lt_of_le ?_ ((h i).anti.antitone (Fin.le_last k))
  show ((-1 : ℝ) : EReal) < masked u (-1) i (s i (Fin.last 4))
  by_contra hc
  rw [not_lt] at hc
  -- the columns that are neither `i` nor one of its first four picks
  set B : Finset (Fin n) := insert i (Finset.univ.image fun k : Fin 4 => s i k.castSucc) with hB
  have hBc : B.card ≤ 5 := by
    refine (Finset.card_insert_le _ _).trans (Nat.succ_le_succ ?_)
    have := Finset.card_image_le (s := (Finset.univ : Finset (Fin 4))) (f := fun k : Fin 4 => s i k.castSucc)
    simpa using this
  have hopp : ∀ c ∈ Bᶜ, dot u i c ≤ -1 := by
    intro c hcB
    rw [Finset.mem_compl, hB, Finset.mem_insert, not_or] at hcB
    have hle : masked u (-1) i c ≤ ((-1 : ℝ) : EReal) := by
      by_cases e : c = s i (Fin.last 4)
      · rw [e]; exact hc
      · refine ((h i).rest (Fin.last 4) c fun j _ => ?_).trans hc
        refine Fin.lastCases e (fun j => ?_) j
        intro he
        exact hcB.2 (Finset.mem_image.mpr ⟨j, Finset.mem_univ _, he.symm⟩)
    rw [masked, if_neg hcB.1] at hle
    exact_mod_cast hle
  have hcard : 3 ≤ Bᶜ.card := by
    rw [Finset.card_compl, Fintype.card_fin]; omega
  obtain ⟨a, b, c, ha, hb, hc', hab, hac, hbc⟩ := Finset.two_lt_card_iff.mp hcard
  -- row `a` has its greatest entry at both `b` and `c`
  have hone : ∀ d, masked u (-1) a d ≤ ((1 : ℝ) : EReal) := by
    intro d
    rw [masked]
    split
    · exact_mod_cast (by norm_num : (-1 : ℝ) ≤ 1)
    · exact_mod_cast dot_le_one hu a d
  have hval : ∀ d ∈ Bᶜ, a ≠ d → masked u (-1) a d = ((1 : ℝ) : EReal) := by
    intro d hd had
    rw [masked, if_neg had.symm, dot_eq_one hu (hopp a ha) (hopp d hd)]
  have hfirst : ∀ d, masked u (-1) a d = ((1 : ℝ) : EReal) → d = s a 0 := by
    intro d hd
    by_contra hne
    have hlt : masked u (-1) a (s a 1) < masked u (-1) a (s a 0) := (h a).strict 0
    have hle : masked u (-1) a d ≤ masked u (-1) a (s a 1) := by
      by_cases e : d = s a 1
      · rw [e]
      · refine (h a).rest 1 d fun j hj => ?_
        have hj2 : j = 0 ∨ j = 1 := by
          rcases j with ⟨j, hj'⟩
          have : j ≤ 1 := hj
          rcases Nat.le_one_iff_eq_zero_or_eq_one.mp this with rfl | rfl
          · exact Or.inl rfl
          · exact Or.inr rfl
        rcases hj2 with rfl | rfl
        · exact hne
        · exact e
    rw [hd] at hle
    exact absurd (hlt.trans_le (hone _)) (not_lt.mpr hle)
  exact hbc ((hfirst b (hval b hb hab)).trans (hfirst c (hval c hc' hac)).symm)

end Cert.Geometry

end

end
-- ==== Proof.Select.lean ====
/- The kernel's selection in one row of unit vectors yields the dot products with the five nearest rows. -/
module

public import proofs.«01_k».proof.Proof.Lanes
public import proofs.«01_k».proof.Proof.Geometry

@[expose] public section

noncomputable section

namespace Cert.Select

open Cert.Lanes Cert.Geometry

/-- A pick of a row is not the row itself. -/
theorem pick_ne {u : Fin 8192 → Fin 256 → ℝ} (hu : ∀ i, ∑ k, u i k * u i k = 1)
    {s : Fin 8192 → Fin 5 → Fin 8192} (h : ∀ i, Picks (masked u (-1) i) (s i)) (i : Fin 8192) (k : Fin 5) : s i k ≠ i := by
  intro e
  have h1 := neg_one_lt_pick (by norm_num) hu h i k
  rw [masked, if_pos e] at h1
  exact lt_irrefl _ h1

/-- The kernel's entries of a row are at most the reference's, which mask the row itself with minus one. -/
theorem masked_le {u : Fin 8192 → Fin 256 → ℝ} (i c : Fin 8192) : masked u (-3) i c ≤ masked u (-1) i c := by
  unfold masked
  split
  · exact_mod_cast (by norm_num : (-3 : ℝ) ≤ -1)
  · exact le_rfl

/-- The maximum over the lanes in round `k` is the dot product with the `k`-th nearest row. -/
theorem top_eq_dot {u : Fin 8192 → Fin 256 → ℝ} (hu : ∀ i, ∑ k, u i k * u i k = 1)
    {s : Fin 8192 → Fin 5 → Fin 8192} (h : ∀ i, Picks (masked u (-1) i) (s i)) (i : Fin 8192)
    {w : ℕ → EReal} (hw : ∀ c : Fin 8192, w c = masked u (-3) i c) (k : Fin 5) :
    top (next^[k] (fun j l => regs ((-3 : ℝ) : EReal) (fun c => w (128 * c + l)) 63 j)) = ((dot u i (s i k) : ℝ) : EReal) := by
  have hval : ∀ k, masked u (-1) i (s i k) = ((dot u i (s i k) : ℝ) : EReal) := fun k => by
    rw [masked, if_neg (pick_ne hu h i k)]
  have hval3 : ∀ k, masked u (-3) i (s i k) = ((dot u i (s i k) : ℝ) : EReal) := fun k => by
    rw [masked, if_neg (pick_ne hu h i k)]
  have key := top_iterate (held_regs ((-3 : ℝ) : EReal) w 5) (fun k => if hk : k < 5 then (s i ⟨k, hk⟩ : ℕ) else 0)
    (fun k => if hk : k < 5 then ((dot u i (s i ⟨k, hk⟩) : ℝ) : EReal) else 0) ?_ ?_ ?_ ?_ ?_ k k.isLt
  · rw [key, dif_pos k.isLt]
  · intro k hk
    simp only [dif_pos hk]
    exact (s i ⟨k, hk⟩).isLt
  · intro k hk
    simp only [dif_pos hk]
    rw [hw, hval3]
  · intro k hk
    simp only [dif_pos hk]
    rw [← hval]
    exact lt_trans (by exact_mod_cast (by norm_num : (-3 : ℝ) < -1)) (neg_one_lt_pick (by norm_num) hu h i ⟨k, hk⟩)
  · intro k hk c hc hne
    simp only [dif_pos hk]
    have h1 := (h i).rest ⟨k, hk⟩ ⟨c, hc⟩ fun j hj he => by
      have := hne j hj
      rw [dif_pos j.isLt] at this
      exact this (congrArg Fin.val he)
    rw [← hval]
    exact (hw ⟨c, hc⟩).le.trans ((masked_le i ⟨c, hc⟩).trans h1)
  · intro k hk
    have h1 := (h i).strict ⟨k, hk⟩
    rw [hval, hval] at h1
    rw [dif_pos (show k + 1 < 5 by omega), dif_pos (show k < 5 by omega)]
    exact h1

end Cert.Select

end

end
-- ==== Proof.Total.lean ====
/- The kernel's running sum over rows of length one: after all grid steps it is the sum over all rows of the logarithm of a row's mean distance
   to its five nearest rows. -/
module

public import proofs.«01_k».proof.Proof.Block
public import proofs.«01_k».proof.Proof.Select
public import proofs.«01_k».proof.Proof.Final

@[expose] public section

noncomputable section

namespace Cert.Total

open Idealize.ShloMosaic Idealize.ShloMosaic.ValueIdx Cert.KernelIdeal Cert.KernelIdeal.Gen Cert.Rounds Cert.Steps Cert.Registers Cert.Block
  Cert.Geometry Cert.Final

variable {x : Rows} {u : Fin 8192 → Fin 256 → ℝ} {s : Fin 8192 → Fin 5 → Fin 8192}

/-- The logarithm of a row's mean distance to its picks. -/
def loss (u : Fin 8192 → Fin 256 → ℝ) (s : Fin 8192 → Fin 5 → Fin 8192) (i : Fin 8192) : EReal :=
  Ideal.log ((∑ j : Fin 5, gap ((dot u i (s i j) : ℝ) : EReal)) * (((5 : ℝ)⁻¹ : ℝ) : EReal) + Ideal.ofBits .f32 0x322BCC77#32)

/-- A row of the block of dot products is the row the picks are taken from, but for the entry at its own column. -/
theorem row_at (hx : ∀ i k, unit x i k = ((u i k : ℝ) : EReal)) (t : Fin cfg0.N) (p : Fin 512) (c : Fin 8192) :
    row (k0_pay3 (grid0.coords t) (rows (grid0.coords t) (k0_pay1 (F := Ideal) x)) (k0_pay1 (F := Ideal) x)) p c = masked u (-3) (at' t p) c := by
  rw [row, dif_pos c.isLt]
  refine (dots_at t _ _ p c).trans ?_
  unfold masked
  by_cases h : c = at' t p
  · rw [if_pos h, if_pos h]
  · rw [if_neg h, if_neg h, dot, coe_sum]
    refine Finset.sum_congr rfl fun k _ => ?_
    rw [rows_at, unit_at, unit_at, hx, hx, EReal.coe_mul]

/-- A grid step adds its rows' losses. -/
theorem step_at (hx : ∀ i k, unit x i k = ((u i k : ℝ) : EReal)) (hu : ∀ i, ∑ k, u i k * u i k = 1)
    (hs : ∀ i, Picks (masked u (-1) i) (s i)) (t : Fin cfg0.N) (o : Vec Ideal S1x1 .f32) :
    step (grid0.coords t) (rows (grid0.coords t) (k0_pay1 (F := Ideal) x)) (k0_pay1 (F := Ideal) x) o (ix2 (0 : Fin 1) (0 : Fin 1))
      = (o (ix2 (0 : Fin 1) (0 : Fin 1)) : EReal) + ∑ p : Fin 512, loss u s (at' t p) := by
  rw [step, vout_at]
  refine congrArg (fun z : EReal => (o (ix2 (0 : Fin 1) (0 : Fin 1)) : EReal) + z) (Finset.sum_congr rfl fun p _ => ?_)
  rw [vlog_at (reads_upto _ _ _ p), loss]
  refine congrArg (fun z : EReal => Ideal.log (z * (((5 : ℝ)⁻¹ : ℝ) : EReal) + Ideal.ofBits .f32 0x322BCC77#32)) ?_
  rw [Finset.sum_range]
  refine Finset.sum_congr rfl fun j _ => ?_
  rw [← Select.top_eq_dot hu hs (at' t p) (row_at hx t p) j]

/-- The losses as a sequence. -/
def seq (u : Fin 8192 → Fin 256 → ℝ) (s : Fin 8192 → Fin 5 → Fin 8192) (n : ℕ) : EReal := if h : n < 8192 then loss u s ⟨n, h⟩ else 0

theorem block_sum (t : Fin cfg0.N) : ∑ p : Fin 512, loss u s (at' t p) = ∑ p ∈ Finset.range 512, seq u s (512 * t.val + p) := by
  rw [Finset.sum_range]
  refine Finset.sum_congr rfl fun p _ => ?_
  rw [seq, dif_pos (show 512 * t.val + p.val < 8192 from (at' t p).isLt)]
  rfl

/-- The running sum after a grid step. -/
theorem acc_at (hx : ∀ i k, unit x i k = ((u i k : ℝ) : EReal)) (hu : ∀ i, ∑ k, u i k * u i k = 1)
    (hs : ∀ i, Picks (masked u (-1) i) (s i)) (n : ℕ) (h : n < cfg0.N) :
    acc x n h (ix2 (0 : Fin 1) (0 : Fin 1)) = ∑ j ∈ Finset.range (512 * (n + 1)), seq u s j := by
  induction n with
  | zero =>
    rw [acc, step_at hx hu hs, block_sum]
    have h0 : ((k0_pay2 (F := Ideal)) (ix2 (0 : Fin 1) (0 : Fin 1)) : EReal) = 0 := Ideal.ofBits_zero_f32
    rw [h0, zero_add]
    simp
  | succ n ih =>
    rw [acc, step_at hx hu hs, block_sum, ih (Nat.lt_of_succ_lt h), show 512 * (n + 1 + 1) = 512 * (n + 1) + 512 by ring, Finset.sum_range_add]

/-- The sum the kernel ends with. -/
theorem total_at (hx : ∀ i k, unit x i k = ((u i k : ℝ) : EReal)) (hu : ∀ i, ∑ k, u i k * u i k = 1)
    (hs : ∀ i, Picks (masked u (-1) i) (s i)) : total x (ix2 (0 : Fin 1) (0 : Fin 1)) = ∑ i : Fin 8192, loss u s i := by
  rw [total, acc_at hx hu hs, show 512 * (15 + 1) = 8192 from rfl, Finset.sum_range]
  refine Finset.sum_congr rfl fun i _ => ?_
  rw [seq, dif_pos i.isLt]

/-- The kernel's result: minus the mean of the losses. -/
theorem result_at (hx : ∀ i k, unit x i k = ((u i k : ℝ) : EReal)) (hu : ∀ i, ∑ k, u i k * u i k = 1)
    (hs : ∀ i, Picks (masked u (-1) i) (s i)) (i : S_.Idx) :
    result (total x) i = Ideal.div (-∑ i : Fin 8192, loss u s i) (Ideal.ofBits .f32 0x46000000#32) := by
  rw [← total_at hx hu hs]
  have e : result (total x) i = Ideal.div (-(shapeCast S_ (total x) shapeCasts_S1x1_S_ i : EReal)) (Ideal.ofBits .f32 0x46000000#32) := rfl
  rw [e, shapeCast_apply _ shapeCasts_S1x1_S_ i (ix2 (0 : Fin 1) (0 : Fin 1)) (by
    have h1 := (S_.rowMajor i).isLt
    have h2 := (S1x1.rowMajor (ix2 (0 : Fin 1) (0 : Fin 1))).isLt
    have e1 : S_.numel = 1 := rfl
    have e2 : S1x1.numel = 1 := rfl
    omega)]

end Cert.Total

end

end
-- ==== Proof.Matrix.lean ====
/- The reference's matrix of dot products of rows of length one, with −1 on its diagonal. -/
module

public import proofs.«01_k».proof.Proof.Gen.ReferenceIdeal.Read
public import Idealize.ShloMosaic.Lib.Routing.OpsSet
public import Idealize.ShloMosaic.Lib.Routing.OpsPair
public import proofs.«01_k».proof.Proof.Block

@[expose] public section

noncomputable section

namespace Cert.Matrix

open Idealize.ShloMosaic Idealize.ShloMosaic.ValueIdx Cert.ReferenceIdeal Cert.ReferenceIdeal.Gen Cert.ReferenceIdeal.Read Cert.Block

/-- The norm of a row, as the reference reads it. -/
theorem norm_at (x : Rows) (i : Fin 8192) : (val_main_v0 (F := Ideal) x : FVec Ideal S8192x1 .f32) (ix2 i (0 : Fin 1)) = norm x i := by
  rw [val_main_v0_apply, val_main_call0_v2_apply]
  have e : val_main_call0_v1 (F := Ideal) x (idx_main_call0_v2 (ix2 i (0 : Fin 1))) = (∑ k : Fin 256, (x (ix2 i k) : EReal) * x (ix2 i k) : EReal) := by
    rw [val_main_call0_v1_apply, val_main_call0_cst_apply]
    refine (congrArg (fun z : EReal => z + _) Ideal.ofBits_zero_f32).trans ?_
    rw [zero_add]
    refine Finset.sum_congr rfl fun k _ => ?_
    rw [val_main_call0_v0_apply]
    have hi : idx_main_call0_v1 (idx_main_call0_v2 (ix2 i (0 : Fin 1))) k = ix2 i k := by
      funext a; fin_cases a <;> rfl
    rw [hi]
    rfl
  rw [e]
  rfl

/-- The reference's rows of length one. -/
theorem unit_at (x : Rows) (i : Fin 8192) (k : Fin 256) : (val_main_v4 (F := Ideal) x : Rows) (ix2 i k) = unit x i k := by
  rw [val_main_v4_apply, val_main_v3_apply, val_main_v2_apply, val_main_v1_apply, val_main_cst_apply]
  have hi : idx_main_v3 (ix2 i k) = ix2 i (0 : Fin 1) := by
    funext a; fin_cases a <;> rfl
  rw [hi, norm_at]
  rfl

/-- The dot product of two rows of length one. -/
theorem dot_at (x : Rows) (i c : Fin 8192) :
    (val_main_v6 (F := Ideal) x : FVec Ideal S8192x8192 .f32) (ix2 i c) = ∑ k : Fin 256, unit x i k * unit x c k := by
  rw [val_main_v6_apply]
  refine Finset.sum_congr rfl fun k _ => ?_
  have hl : lidx_main_v6 (ix2 i c) k = ix2 i k := by
    funext a; fin_cases a <;> rfl
  have hr : idx_main_v5 (ridx_main_v6 (ix2 i c) k) = ix2 c k := by
    funext a; fin_cases a <;> rfl
  rw [val_main_v5_apply, hl, hr, unit_at, unit_at]

/-- The column of row numbers. -/
theorem number_at (i : Fin 8192) : (val_main_v18 (F := Ideal) : IVec S8192x1 32) (ix2 i (0 : Fin 1)) = BitVec.ofNat 32 i.val := by
  rw [val_main_v18_apply, val_main_v12_apply, val_main_v9_apply, val_main_v8_apply, val_main_c_apply, val_main_v7_apply]
  exact Routing.wrap_of_lt _ _ (by have := i.isLt; show (BitVec.ofNat 32 i.val).toNat < _; simp; omega)

theorem number_at' (i : Fin 8192) : (val_main_v19 (F := Ideal) : IVec S8192x1 32) (ix2 i (0 : Fin 1)) = BitVec.ofNat 32 i.val := by
  rw [val_main_v19_apply, val_main_v17_apply, val_main_v14_apply, val_main_v13_apply, val_main_c_1_apply, val_main_v7_apply]
  exact Routing.wrap_of_lt _ _ (by have := i.isLt; show (BitVec.ofNat 32 i.val).toNat < _; simp; omega)

/-- The table of the diagonal's positions. -/
theorem table_at (i : Fin 8192) (b : Fin 2) : (val_main_v20 (F := Ideal) : IVec S8192x2 32) (ix2 i b) = BitVec.ofNat 32 i.val := by
  unfold val_main_v20
  have cl := concatenate_pair_apply_left (t := S8192x2) (1 : Fin 2) (val_main_v18 (F := Ideal) : IVec S8192x1 32) (val_main_v19 (F := Ideal) : IVec S8192x1 32)
    concatenates_S8192x1_S8192x1_S8192x2_d1 (ix2 i (0 : Fin 2)) rfl (ix2 i (0 : Fin 1)) (by intro a; fin_cases a <;> rfl)
  have cr := concatenate_pair_apply_right (t := S8192x2) (1 : Fin 2) (val_main_v18 (F := Ideal) : IVec S8192x1 32) (val_main_v19 (F := Ideal) : IVec S8192x1 32)
    concatenates_S8192x1_S8192x1_S8192x2_d1 (ix2 i (1 : Fin 2)) rfl rfl (ix2 i (0 : Fin 1)) (by intro a ha; fin_cases a <;> first | rfl | exact absurd rfl ha) rfl
  fin_cases b
  · exact cl.trans (number_at i)
  · exact cr.trans (number_at' i)

/-- An update lands at an entry when its two index words name it. -/
theorem lands (i r c : Fin 8192) :
    scatter_S8192x8192_S8192x2_S8192_n_01_01_1.resultIdx? (ix1 i) (val_main_v20 (F := Ideal)) = some (ix2 r c) ↔ i = r ∧ i = c := by
  rw [Routing.resultIdx?_eq_some]
  have hwin : ∀ q : Fin 2, scatter_S8192x8192_S8192x2_S8192_n_01_01_1.window (ix1 i) q = 0 := fun q => by
    unfold ScatterDims.window
    rw [dif_neg fun h => (of_decide_eq_true (List.mem_filter.1 h).2) (by fin_cases q <;> decide)]
  have hstart : ∀ q : Fin 2, scatter_S8192x8192_S8192x2_S8192_n_01_01_1.start (ix1 i) (val_main_v20 (F := Ideal)) q = (i.val : Int) := fun q => by
    unfold ScatterDims.start
    rw [dif_pos (by fin_cases q <;> decide)]
    rw [eq_ix2 (scatter_S8192x8192_S8192x2_S8192_n_01_01_1.siIdx (ix1 i) _)]
    refine (congrArg BitVec.toInt (table_at _ _)).trans ?_
    have h0 : ((scatter_S8192x8192_S8192x2_S8192_n_01_01_1.siIdx (ix1 i) ⟨scatter_S8192x8192_S8192x2_S8192_n_01_01_1.scatterDimsToOperandDims.idxOf q,
      List.idxOf_lt_length_iff.2 (by fin_cases q <;> decide)⟩) (0 : Fin 2)).val = i.val := by
      fin_cases q <;> rfl
    refine (congrArg (fun n => (BitVec.ofNat 32 n).toInt) h0).trans ?_
    exact StableHlo.Predicate.toInt_ofNat_small _ (by have := i.isLt; omega)
  constructor
  · intro h
    have e0 := h (0 : Fin 2)
    have e1 := h (1 : Fin 2)
    rw [hstart, hwin] at e0 e1
    constructor
    · apply Fin.ext; change (i.val : Int) + ((0 : ℕ) : Int) = (r.val : Int) at e0; omega
    · apply Fin.ext; change (i.val : Int) + ((0 : ℕ) : Int) = (c.val : Int) at e1; omega
  · rintro ⟨rfl, rfl⟩ a
    fin_cases a
    · exact (congrArg₂ (fun (p : Int) (q : ℕ) => p + (q : Int)) (hstart 0) (hwin 0)).trans (by simp [ix2])
    · exact (congrArg₂ (fun (p : Int) (q : ℕ) => p + (q : Int)) (hstart 1) (hwin 1)).trans (by simp [ix2])

/-- The word −1. -/
theorem minus_one_word : Ideal.ofBits .f32 0xBF800000#32 = ((-1 : ℝ) : EReal) := by
  simp [Ideal.ofBits, Ideal.ieee]
  rw [← EReal.coe_mul]
  norm_num

/-- The matrix the nearest rows are chosen from. -/
theorem matrix_at (x : Rows) (i c : Fin 8192) :
    (val_main_v22 (F := Ideal) x : FVec Ideal S8192x8192 .f32) (ix2 i c) = if c = i then ((-1 : ℝ) : EReal) else ∑ k : Fin 256, unit x i k * unit x c k := by
  unfold val_main_v22
  by_cases h : c = i
  · subst h
    rw [if_pos rfl]
    refine Routing.scatter_set_hit _ _ _ _ _ _ (fun k _ => ?_) (ix1 c) ((lands c c c).mpr ⟨rfl, rfl⟩)
    rw [val_main_v21_apply, val_main_cst_3_apply]
    exact minus_one_word
  · rw [if_neg h, ← dot_at]
    refine Routing.scatter_set_miss _ _ _ _ _ fun k hk => ?_
    rw [eq_ix1 k] at hk
    have := (lands _ _ _).mp hk
    exact h (this.2.symm.trans this.1)

end Cert.Matrix

end

end
-- ==== Proof.TopFive.lean ====
/- The host's `top_k` over the last axis of a matrix of extended reals, read row by row: the positions it picks, in order. -/
module

public import Idealize.ShloMosaic.Lib.Pipeline.Value
public import Idealize.ShloMosaic.Lib.SortFacts
public import Idealize.ShloMosaic.Lib.ValueIdx
public import Idealize.ShloMosaic.PureOps.Ideal.Laws

@[expose] public section

noncomputable section

namespace Cert.TopFive

open Idealize.ShloMosaic Idealize.ShloMosaic.ValueIdx

variable {M N : ℕ}

/-- "Sorts before" in row `i`: the greater entry first. -/
def before (x : (⟨2, ![M, N]⟩ : Shape).Idx → Ideal .f32) (i : Fin M) (a b : Fin N) : Bool :=
  FloatOps.cmpfTotal (F := Ideal) (φ := .f32) .gt (x (ix2 i a)) (x (ix2 i b)) == 1#1

/-- The column holding the `k`-th greatest entry of row `i`. -/
def order (x : (⟨2, ![M, N]⟩ : Shape).Idx → Ideal .f32) (i : Fin M) : Fin N → Fin N := sortedFrom (before x i)

/-- "Sorts before" is the strict order of the entries, the greater one first. -/
theorem before_iff (x : (⟨2, ![M, N]⟩ : Shape).Idx → Ideal .f32) (i : Fin M) (a b : Fin N) :
    before x i a b = true ↔ (x (ix2 i b) : EReal) < x (ix2 i a) := by
  unfold before
  rw [Ideal.cmpfTotal_def]
  show (BitVec.ofBool (decide ((x (ix2 i b) : EReal) < x (ix2 i a))) == 1#1) = true ↔ _
  by_cases h : (x (ix2 i b) : EReal) < x (ix2 i a) <;> simp [h]

/-- Every column is met once in the order. -/
theorem order_surjective (x : (⟨2, ![M, N]⟩ : Shape).Idx → Ideal .f32) (i : Fin M) : Function.Surjective (order x i) :=
  sortedFrom_surjective _

/-- The entries fall along the order. -/
theorem order_antitone (x : (⟨2, ![M, N]⟩ : Shape).Idx → Ideal .f32) (i : Fin M) (a b : Fin N) (h : a ≤ b) :
    (x (ix2 i (order x i b)) : EReal) ≤ x (ix2 i (order x i a)) := by
  rcases h.eq_or_lt with rfl | h
  · exact le_rfl
  have h1 := sortedFrom_noInversion (before x i) (before x i)
    (fun a b hab => by
      rw [before_iff] at hab
      rw [Bool.eq_false_iff, ne_eq, before_iff]
      exact not_lt.mpr hab.le)
    (fun a b hab => hab)
    (fun a b c hab hbc => by
      rw [Bool.eq_false_iff, ne_eq, before_iff, not_lt] at hab hbc ⊢
      exact hab.trans hbc) a b h
  rw [Bool.eq_false_iff, ne_eq, before_iff, not_lt] at h1
  exact h1

/-- Position `k` of the row through `(i, j)`. -/
theorem along_one (i : Fin M) (j k : Fin N) : (ix2 i j).along (1 : Fin 2) k = ix2 i k := by
  funext a
  match a with
  | ⟨0, _⟩ => exact Function.update_of_ne (fun h => absurd (congrArg Fin.val h) Nat.zero_ne_one) _ _
  | ⟨1, _⟩ => exact Function.update_self _ _ _

/-- Both operands of the sort are permuted by the order of the first one's row. -/
theorem sort2_at {β : Type} (x : (⟨2, ![M, N]⟩ : Shape).Idx → Ideal .f32) (y : (⟨2, ![M, N]⟩ : Shape).Idx → β) (i : Fin M) (j : Fin N) :
    (Host.sort2 ⟨2, ![M, N]⟩ 1 (fun l r => FloatOps.cmpfTotal (F := Ideal) (φ := .f32) .gt l.1 r.1) x y).1 (ix2 i j)
        = x (ix2 i (order x i j))
      ∧ (Host.sort2 ⟨2, ![M, N]⟩ 1 (fun l r => FloatOps.cmpfTotal (F := Ideal) (φ := .f32) .gt l.1 r.1) x y).2 (ix2 i j)
        = y (ix2 i (order x i j)) := by
  have e : (sortedFrom (fun k k' : Fin N => FloatOps.cmpfTotal (F := Ideal) (φ := .f32) .gt (x ((ix2 i j).along (1 : Fin 2) k))
      (x ((ix2 i j).along (1 : Fin 2) k')) == 1#1) j) = order x i j := by
    unfold order
    refine congrFun (congrArg sortedFrom (funext fun k => funext fun k' => ?_)) j
    rw [along_one, along_one]; rfl
  unfold Host.sort2
  rw [dif_pos (show 1 < (⟨2, ![M, N]⟩ : Shape).rank from Nat.one_lt_two)]
  constructor
  · refine Eq.trans ?_ (congrArg x (along_one i j (order x i j)))
    exact congrArg (fun k => x ((ix2 i j).along (1 : Fin 2) k)) e
  · refine Eq.trans ?_ (congrArg y (along_one i j (order x i j)))
    exact congrArg (fun k => y ((ix2 i j).along (1 : Fin 2) k)) e

variable {K : ℕ}

/-- The leading columns of a matrix. -/
theorem lead_at {β : Type} (y : (⟨2, ![M, N]⟩ : Shape).Idx → β) (hK : K ≤ N) (h : (⟨2, ![M, N]⟩ : Shape).Slices (fun _ => 0) ⟨2, ![M, K]⟩)
    (i : Fin M) (k : Fin K) : extractStridedSlice ⟨2, ![M, K]⟩ (fun _ => 0) y h (ix2 i k) = y (ix2 i (k.castLE hK)) := by
  refine extractStridedSlice_apply _ y h (ix2 i k) (ix2 i (k.castLE hK)) fun a => ?_
  match a with
  | ⟨0, _⟩ => exact (Nat.zero_add _).symm
  | ⟨1, _⟩ => exact (Nat.zero_add _).symm

/-- The column numbers the sort carries along. -/
def columns (M N : ℕ) : IVec (⟨2, ![M, N]⟩ : Shape) 32 :=
  fun i => if hd : 1 < (⟨2, ![M, N]⟩ : Shape).rank then iotaInDim ⟨2, ![M, N]⟩ 32 ⟨1, hd⟩ i else 0#32

/-- Slot `k` of the values is the entry at the `k`-th column of the order. -/
theorem topK_values (x : (⟨2, ![M, N]⟩ : Shape).Idx → Ideal .f32) (hK : K ≤ N)
    (h : (⟨2, ![M, N]⟩ : Shape).Slices (fun _ => 0) ⟨2, ![M, K]⟩) (i : Fin M) (k : Fin K) :
    (Host.topK ⟨2, ![M, K]⟩ 1 (FloatOps.cmpfTotal (F := Ideal) (φ := .f32) .gt) x h).1 (ix2 i k) = x (ix2 i (order x i (k.castLE hK))) := by
  exact (lead_at (Host.sort2 ⟨2, ![M, N]⟩ 1 (fun l r => FloatOps.cmpfTotal (F := Ideal) (φ := .f32) .gt l.1 r.1) x (columns M N)).1 hK h i k).trans
    (sort2_at x (columns M N) i (k.castLE hK)).1

/-- Slot `k` of the indices is the number of that column. -/
theorem topK_indices (x : (⟨2, ![M, N]⟩ : Shape).Idx → Ideal .f32) (hK : K ≤ N)
    (h : (⟨2, ![M, N]⟩ : Shape).Slices (fun _ => 0) ⟨2, ![M, K]⟩) (i : Fin M) (k : Fin K) :
    (Host.topK ⟨2, ![M, K]⟩ 1 (FloatOps.cmpfTotal (F := Ideal) (φ := .f32) .gt) x h).2 (ix2 i k)
      = BitVec.ofNat 32 (order x i (k.castLE hK)).val := by
  refine (lead_at (Host.sort2 ⟨2, ![M, N]⟩ 1 (fun l r => FloatOps.cmpfTotal (F := Ideal) (φ := .f32) .gt l.1 r.1) x (columns M N)).2 hK h i k).trans
    ((sort2_at x (columns M N) i (k.castLE hK)).2.trans ?_)
  unfold columns
  rw [dif_pos (show 1 < (⟨2, ![M, N]⟩ : Shape).rank from Nat.one_lt_two)]
  rfl

end Cert.TopFive

end

end
-- ==== Proof.Nearest.lean ====
/- The reference's five nearest rows of a row: the first five columns of its row of the matrix, in falling order; the rows `take` reads with them. -/
module

public import proofs.«01_k».proof.Proof.Matrix
public import proofs.«01_k».proof.Proof.TopFive
public import proofs.«01_k».proof.Proof.Geometry
public import Idealize.ShloMosaic.Lib.ReduceAll

@[expose] public section

noncomputable section

namespace Cert.Nearest

open Idealize.ShloMosaic Idealize.ShloMosaic.ValueIdx Cert.ReferenceIdeal Cert.ReferenceIdeal.Gen Cert.ReferenceIdeal.Read Cert.Block Cert.Geometry
  Cert.TopFive

/-- The number of the `k`-th nearest row. -/
def pick (x : Rows) (i : Fin 8192) (k : Fin 5) : Fin 8192 := order (val_main_v22 (F := Ideal) x) i (k.castLE (by decide))

theorem value_at (x : Rows) (i : Fin 8192) (k : Fin 5) :
    (val_main_values (F := Ideal) x : FVec Ideal S8192x5 .f32) (ix2 i k) = (val_main_v22 (F := Ideal) x : FVec Ideal S8192x8192 .f32) (ix2 i (pick x i k)) :=
  topK_values (val_main_v22 (F := Ideal) x) (by decide) sliceFits_S8192x8192_S8192x5 i k

theorem index_at (x : Rows) (i : Fin 8192) (k : Fin 5) :
    (val_main_indices (F := Ideal) x : IVec S8192x5 32) (ix2 i k) = BitVec.ofNat 32 (pick x i k).val :=
  topK_indices (val_main_v22 (F := Ideal) x) (by decide) sliceFits_S8192x8192_S8192x5 i k

variable {x : Rows} {u : Fin 8192 → Fin 256 → ℝ}

/-- The matrix in terms of the unit rows' reals. -/
theorem masked_at (hx : ∀ i k, unit x i k = ((u i k : ℝ) : EReal)) (i c : Fin 8192) :
    (val_main_v22 (F := Ideal) x : FVec Ideal S8192x8192 .f32) (ix2 i c) = masked u (-1) i c := by
  rw [Matrix.matrix_at]
  unfold masked
  by_cases h : c = i
  · rw [if_pos h, if_pos h]
  · rw [if_neg h, if_neg h, dot, coe_sum]
    exact Finset.sum_congr rfl fun k _ => by rw [hx, hx, EReal.coe_mul]

/-- When the five values of each row fall strictly, the numbers beside them are the row's five greatest entries. -/
theorem picks (hx : ∀ i k, unit x i k = ((u i k : ℝ) : EReal))
    (hv : ∀ (i : Fin 8192) (k : Fin 4), ((val_main_values (F := Ideal) x : FVec Ideal S8192x5 .f32) (ix2 i k.succ) : EReal)
      < (val_main_values (F := Ideal) x : FVec Ideal S8192x5 .f32) (ix2 i k.castSucc)) (i : Fin 8192) :
    Picks (masked u (-1) i) (pick x i) where
  rest k c hc := by
    rw [← masked_at hx, ← masked_at hx]
    obtain ⟨n, rfl⟩ := order_surjective (val_main_v22 (F := Ideal) x) i c
    refine order_antitone _ i _ _ (le_of_not_gt fun hlt => ?_)
    have hn : n.val < k.val := hlt
    have hk := k.isLt
    refine hc ⟨n.val, by omega⟩ (Fin.le_def.mpr hn.le) ?_
    unfold pick
    congr 1
  strict k := by
    have := hv i k
    rw [value_at, value_at, masked_at hx, masked_at hx] at this
    exact this

/-- The row numbers `take` reads with. -/
theorem wrapped_at (i : Fin 8192) (k : Fin 5) :
    (val_main_call1_v5 (F := Ideal) x : IVec S8192x5x1 32) (ix3 i k (0 : Fin 1)) = BitVec.ofNat 32 (pick x i k).val := by
  rw [val_main_call1_v5_apply]
  have hi : idx_main_call1_v5 (ix3 i k (0 : Fin 1)) = ix2 i k := by
    funext a; fin_cases a <;> rfl
  rw [hi, val_main_call1_v4_apply, val_main_call1_v1_apply, val_main_call1_v0_apply, val_main_call1_c_apply, index_at]
  exact Routing.wrap_of_lt _ _ (by have := (pick x i k).isLt; simp; omega)

/-- A row number lies between 0 and the last row's. -/
theorem within (n : ℕ) (h : n < 8192) : IntOp.andi (IntOp.cmpi .sge (BitVec.ofNat 32 n) 0#32) (IntOp.cmpi .sle (BitVec.ofNat 32 n) 8191#32) = 1#1 := by
  have h1 : (BitVec.ofNat 32 n).toInt = n := StableHlo.Predicate.toInt_ofNat_small _ (by omega)
  have a1 : IntOp.cmpi .sge (BitVec.ofNat 32 n) 0#32 = 1#1 := by
    simp only [IntOp.cmpi, BitVec.sle_eq_decide, h1]
    simp
  have a2 : IntOp.cmpi .sle (BitVec.ofNat 32 n) 8191#32 = 1#1 := by
    simp only [IntOp.cmpi, BitVec.sle_eq_decide, h1]
    rw [show (8191#32 : BitVec 32).toInt = 8191 from by decide, decide_eq_true (by omega)]
    rfl
  rw [a1, a2]
  rfl

/-- The numbers `take` reads with are row numbers of the array. -/
theorem inside_at (i : Fin 8192) (k : Fin 5) : (val_main_call1_v11 (F := Ideal) x : IVec S8192x5x1 1) (ix3 i k (0 : Fin 1)) = 1#1 := by
  rw [val_main_call1_v11_apply, val_main_call1_v7_apply, val_main_call1_v10_apply, val_main_call1_v6_apply, val_main_call1_c_2_apply,
    val_main_call1_v9_apply, val_main_call1_v8_apply, val_main_call1_c_1_apply, wrapped_at]
  exact within _ (pick x i k).isLt

theorem inside (j : S8192x5x1.Idx) : (val_main_call1_v11 (F := Ideal) x : IVec S8192x5x1 1) j = 1#1 := by
  have hj : j = ix3 (j 0 : Fin 8192) (j 1 : Fin 5) (0 : Fin 1) := by
    funext a
    fin_cases a
    · rfl
    · rfl
    · exact Subsingleton.elim (α := Fin 1) _ _
  exact (congrArg (val_main_call1_v11 (F := Ideal) x : IVec S8192x5x1 1) hj).trans (inside_at _ _)

/-- An entry of the rows `take` gathers. -/
theorem gathered_at (i : Fin 8192) (k : Fin 5) (l : Fin 256) :
    (val_main_call1_v13 (F := Ideal) x : FVec Ideal S8192x5x256 .f32) (ix3 i k l) = unit x (pick x i k) l := by
  rw [← Matrix.unit_at]
  unfold val_main_call1_v13 Host.gather
  refine congrArg (val_main_v4 (F := Ideal) x) (funext fun a => Fin.ext ?_)
  have hb : ∀ a' : Fin 2, a' ∉ gather_S8192x256_S8192x5x1_S8192x5x256_2_0_n_n_0_2_1256.operandBatchingDims := fun a' => List.not_mem_nil
  match a with
  | ⟨0, _⟩ =>
    show gather_S8192x256_S8192x5x1_S8192x5x256_2_0_n_n_0_2_1256.start (ix3 i k l) (val_main_call1_v5 (F := Ideal) x) 0
      + gather_S8192x256_S8192x5x1_S8192x5x256_2_0_n_n_0_2_1256.batchCoord (ix3 i k l) 0
      + gather_S8192x256_S8192x5x1_S8192x5x256_2_0_n_n_0_2_1256.offCoord (ix3 i k l) 0 = (pick x i k).val
    rw [GatherDims.batchCoord_eq_zero _ _ _ (hb 0), GatherDims.offCoord_eq_zero _ _ _ (by decide)]
    unfold GatherDims.start
    rw [dif_pos (by decide)]
    have hsi : gather_S8192x256_S8192x5x1_S8192x5x256_2_0_n_n_0_2_1256.siIdx (ix3 i k l) ⟨0, by decide⟩ = ix3 i k (0 : Fin 1) := by
      funext b
      fin_cases b <;> rfl
    have hw := (congrArg (val_main_call1_v5 (F := Ideal) x : IVec S8192x5x1 32) hsi).trans (wrapped_at i k)
    refine (congrArg (fun w : BitVec 32 => min w.toInt.toNat 8191 + 0 + 0) hw).trans ?_
    have hp := (pick x i k).isLt
    rw [StableHlo.Predicate.toInt_ofNat_small _ (by omega)]
    omega
  | ⟨1, _⟩ =>
    show gather_S8192x256_S8192x5x1_S8192x5x256_2_0_n_n_0_2_1256.start (ix3 i k l) (val_main_call1_v5 (F := Ideal) x) 1
      + gather_S8192x256_S8192x5x1_S8192x5x256_2_0_n_n_0_2_1256.batchCoord (ix3 i k l) 1
      + gather_S8192x256_S8192x5x1_S8192x5x256_2_0_n_n_0_2_1256.offCoord (ix3 i k l) 1 = l.val
    rw [GatherDims.batchCoord_eq_zero _ _ _ (hb 1), Nat.add_zero]
    unfold GatherDims.start GatherDims.offCoord
    rw [dif_neg (by decide), dif_pos (by decide), Nat.zero_add]
    rfl

/-- An entry of the rows `take` gives. -/
theorem taken_at (i : Fin 8192) (k : Fin 5) (l : Fin 256) :
    (val_main_v23 (F := Ideal) x : FVec Ideal S8192x5x256 .f32) (ix3 i k l) = unit x (pick x i k) l := by
  rw [val_main_v23_apply, val_main_call1_v14_apply]
  have h : val_main_call1_v12 (F := Ideal) x (idx_main_call1_v14 (ix3 i k l)) = 1#1 :=
    Host.reduce_andi_one _ _ _ _ _ rfl inside
  rw [h, gathered_at]
  rfl

end Cert.Nearest

end

end
-- ==== Proof.Value.lean ====
/- The reference's result over rows of length one: minus the mean of the rows' losses. -/
module

public import proofs.«01_k».proof.Proof.Nearest
public import proofs.«01_k».proof.Proof.Total

@[expose] public section

noncomputable section

namespace Cert.Value

open Idealize.ShloMosaic Idealize.ShloMosaic.ValueIdx Cert.ReferenceIdeal Cert.ReferenceIdeal.Gen Cert.ReferenceIdeal.Read Cert.Block Cert.Geometry
  Cert.Registers Cert.Nearest Cert.Total

variable {x : Rows} {u : Fin 8192 → Fin 256 → ℝ}

/-- The row beside each of its nearest. -/
theorem own_at (i : Fin 8192) (k : Fin 5) (l : Fin 256) : (val_main_v25 (F := Ideal) x : FVec Ideal S8192x5x256 .f32) (ix3 i k l) = unit x i l := by
  rw [val_main_v25_apply, val_main_v24_apply, ← Matrix.unit_at]
  refine congrArg (val_main_v4 (F := Ideal) x) (funext fun a => ?_)
  fin_cases a <;> rfl

/-- The distance of a row to one of its nearest. -/
theorem distance_at (hx : ∀ i k, unit x i k = ((u i k : ℝ) : EReal)) (hu : ∀ i, ∑ k, u i k * u i k = 1) (i : Fin 8192) (k : Fin 5) :
    (val_main_v27 (F := Ideal) x : FVec Ideal S8192x5 .f32) (ix2 i k) = gap ((dot u i (pick x i k) : ℝ) : EReal) := by
  have e : (val_main_call2_v1 (F := Ideal) x : FVec Ideal S8192x5 .f32) (ix2 i k)
      = ∑ l : Fin 256, ((u i l : EReal) - (u (pick x i k) l : EReal)) * ((u i l : EReal) - (u (pick x i k) l : EReal)) := by
    rw [val_main_call2_v1_apply, val_main_call2_cst_apply]
    refine (congrArg (fun z : EReal => z + _) Ideal.ofBits_zero_f32).trans ?_
    rw [zero_add]
    refine Finset.sum_congr rfl fun l _ => ?_
    have hi : idx_main_call2_v1 (ix2 i k) l = ix3 i k l := by
      funext a; fin_cases a <;> rfl
    rw [hi, val_main_call2_v0_apply, val_main_v26_apply, own_at, taken_at, hx, hx]
    rfl
  rw [val_main_v27_apply, e]
  exact (dist_eq hu i (pick x i k)).trans rfl

/-- The word 5. -/
theorem five_word : Ideal.ofBits .f32 0x40A00000#32 = ((5 : ℝ) : EReal) := by
  simp [Ideal.ofBits, Ideal.ieee]
  rw [← EReal.coe_mul]
  norm_num

/-- The word 8192. -/
theorem count_word : Ideal.ofBits .f32 0x46000000#32 = ((8192 : ℝ) : EReal) := by
  simp [Ideal.ofBits, Ideal.ieee]
  rw [← EReal.coe_mul]
  norm_num

/-- The logarithm of a row's mean distance. -/
theorem loss_at (hx : ∀ i k, unit x i k = ((u i k : ℝ) : EReal)) (hu : ∀ i, ∑ k, u i k * u i k = 1) (i : Fin 8192) :
    (val_main_v33 (F := Ideal) x : FVec Ideal S8192 .f32) (ix1 i) = loss u (pick x) i := by
  have e : (val_main_v28 (F := Ideal) x : FVec Ideal S8192 .f32) (ix1 i) = ∑ k : Fin 5, gap ((dot u i (pick x i k) : ℝ) : EReal) := by
    rw [val_main_v28_apply, val_main_cst_4_apply]
    refine (congrArg (fun z : EReal => z + _) Ideal.ofBits_zero_f32).trans ?_
    rw [zero_add]
    refine Finset.sum_congr rfl fun k _ => ?_
    have hi : idx_main_v28 (ix1 i) k = ix2 i k := by
      funext a; fin_cases a <;> rfl
    rw [hi, distance_at hx hu]
  rw [val_main_v33_apply, val_main_v32_apply, val_main_v30_apply, val_main_v29_apply, val_main_cst_5_apply, val_main_v31_apply,
    val_main_cst_6_apply, e, loss]
  have h5 : ∀ z : EReal, Ideal.div z (Ideal.ofBits .f32 0x40A00000#32) = z * (((5 : ℝ)⁻¹ : ℝ) : EReal) := fun z => by
    rw [five_word, Ideal.div_coe (by norm_num), one_div]
  rw [← h5]
  rfl

/-- The reference's result: minus the mean of the losses. -/
theorem result_at (hx : ∀ i k, unit x i k = ((u i k : ℝ) : EReal)) (hu : ∀ i, ∑ k, u i k * u i k = 1) (j : S_.Idx) :
    (val_main_v36 (F := Ideal) x : FVec Ideal S_ .f32) j = Ideal.div (-∑ i : Fin 8192, loss u (pick x) i) (Ideal.ofBits .f32 0x46000000#32) := by
  have e : (val_main_v34 (F := Ideal) x : FVec Ideal S_ .f32) j = ∑ i : Fin 8192, loss u (pick x) i := by
    rw [val_main_v34_apply, val_main_cst_7_apply]
    refine (congrArg (fun z : EReal => z + _) Ideal.ofBits_zero_f32).trans ?_
    rw [zero_add]
    let q : Fin 8192 ≃ S8192.Idx := ⟨fun i => ix1 i, fun n => n 0, fun _ => rfl, fun n => by funext a; fin_cases a; rfl⟩
    exact (Fintype.sum_equiv q _ _ fun i => (loss_at hx hu i).symm).symm
  rw [val_main_v36_apply, val_main_v35_apply, val_main_cst_8_apply, e]
  have h : ∀ z : EReal, -Ideal.div z (Ideal.ofBits .f32 0x46000000#32) = Ideal.div (-z) (Ideal.ofBits .f32 0x46000000#32) := fun z => by
    rw [count_word, Ideal.div_coe (by norm_num), Ideal.div_coe (by norm_num), EReal.neg_mul]
  rw [← h]
  rfl

end Cert.Value

end

end
-- ==== Proof.Claims.lean ====
/- The claims, one theorem each. -/
module

public import proofs.«01_k».proof.Defs
public import proofs.«01_k».proof.Proof.Gen.Kernel.Frame
public import proofs.«01_k».proof.Proof.Gen.ReferenceIdeal.Run
public import proofs.«01_k».proof.Proof.Post
public import proofs.«01_k».proof.Proof.Total
public import proofs.«01_k».proof.Proof.Value
public import proofs.«01_k».proof.Proof.General

@[expose] public section

noncomputable section

namespace Cert.Claims

open Idealize.ShloMosaic Idealize.SL.Sem Cert.Block Cert.Nearest

/-- The printed kernel runs, leaves its argument and clears its semaphores. -/
theorem frame_kernel : Cert.quiescent_Kernel := fun m ρ _ => Cert.Kernel.Gen.frame m ρ

/-- So does the idealized kernel, -/
theorem frame_ideal : Cert.quiescent_KernelIdeal := fun m ρ _ => Cert.KernelIdeal.Gen.frame m ρ

/-- under the precondition too. -/
theorem frame_ideal_general : Cert.quiescent_KernelIdeal_pre_general_position := fun m ρ _ => Cert.KernelIdeal.Gen.frame m ρ

/-- So does the reference, which has no semaphores, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- under the precondition too. -/
theorem frame_reference_general : Cert.quiescent_ReferenceIdeal_pre_general_position := fun m ρ _ => frame_reference m ρ trivial

/-- The one named constant is the number the table gives it. -/
theorem preserves : Cert.preserves_Kernel_KernelIdeal :=
  IdealRules.named_const.statement Cert.KernelIdeal.κ "fifth" .f32 0x3E4CCCCD#32 ((5⁻¹ : ℝ) : EReal) rfl

/-- The small constant under the norms is a positive number. -/
theorem small_word : ∃ c : ℝ, 0 < c ∧ Ideal.ofBits .f32 0x2B8CBCCC#32 = (c : EReal) := by
  refine ⟨9223372 * 2 ^ (-63 : ℤ), by positivity, ?_⟩
  simp [Ideal.ofBits, Ideal.ieee]

/-- In general position the kernel and the reference compute the same number. -/
theorem results_eq (x : Rows) (h : Cert.Pre_general_position.fn (F := Ideal) x = fun _ => 1#1) (j : Cert.KernelIdeal.S_.Idx) :
    Cert.Final.result (Cert.Final.total x) j = (Cert.ReferenceIdeal.Read.val_main_v36 (F := Ideal) x : FVec Ideal Cert.KernelIdeal.S_ .f32) j := by
  obtain ⟨c, hc, hw⟩ := small_word
  have hr : ∀ i, ∃ u : Fin 256 → ℝ, (∀ k, unit x i k = ((u k : ℝ) : EReal)) ∧ ∑ k, u k * u k = 1 := fun i => by
    obtain ⟨h1, h2⟩ := Cert.General.sizes h i
    rw [hw] at h1
    obtain ⟨u, hu, h⟩ := Cert.Geometry.unit_row (fun k => x (ValueIdx.ix2 i k)) c hc h1 h2
    exact ⟨u, fun k => by rw [unit, hw]; exact hu k, h⟩
  choose u hx hu using hr
  rw [Cert.Total.result_at hx hu (picks hx (Cert.General.falls h))]
  exact (Cert.Value.result_at hx hu j).symm

/-- In general position the idealized kernel and the reference end with equal results. -/
theorem algebraic : Cert.algebraic_KernelIdeal_ReferenceIdeal_pre_general_position := by
  intro m ρ m' ρ' hpre hagree
  refine ⟨_, Cert.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, hagree]
  exact (funext (results_eq _ (hpre c))).symm

end Cert.Claims

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.General.facts,
    Cert.Claims.frame_kernel, Cert.Claims.frame_ideal, Cert.Claims.frame_ideal_general, Cert.Claims.frame_reference,
    Cert.Claims.frame_reference_general, Cert.Claims.preserves, Cert.Claims.algebraic⟩

end Cert.Proof

end
